-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.sign_bit.Statement Cert.KernelIdeal.S1x256 .f32
  ∧ IdealRules.named_const.Statement Cert.KernelIdeal.κ "log51" .f32 0x407BA308#32 ((Real.log 51 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v398) = v0 c
          ∧ r.2.mem ((c.tc : Thread Cert.ReferenceIdeal.nD Cert.ReferenceIdeal.τ).loc Cert.ReferenceIdeal.main_v386) = v1 c
          ∧ r.2.mem ((c.tc : Thread Cert.ReferenceIdeal.nD Cert.ReferenceIdeal.τ).loc Cert.ReferenceIdeal.main_v396) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x32x32 : Shape := ⟨4, ![8, 256, 32, 32]⟩
abbrev S256x1024 : Shape := ⟨2, ![256, 1024]⟩
abbrev S8x256x1024 : Shape := ⟨3, ![8, 256, 1024]⟩
abbrev S4x8192 : Shape := ⟨2, ![4, 8192]⟩
abbrev S1x1 : Shape := ⟨2, ![1, 1]⟩
abbrev S1x256x1024 : Shape := ⟨3, ![1, 256, 1024]⟩
abbrev S4x1024 : Shape := ⟨2, ![4, 1024]⟩
abbrev S512x1024 : Shape := ⟨2, ![512, 1024]⟩
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S256x256 : Shape := ⟨2, ![256, 256]⟩
abbrev S1024x256 : Shape := ⟨2, ![1024, 256]⟩
abbrev S256 : Shape := ⟨1, ![256]⟩
abbrev S1x256 : Shape := ⟨2, ![1, 256]⟩
abbrev S512x256 : Shape := ⟨2, ![512, 256]⟩
abbrev S2048x256 : Shape := ⟨2, ![2048, 256]⟩
abbrev S1x256x256 : Shape := ⟨3, ![1, 256, 256]⟩
abbrev S1 : Shape := ⟨1, ![1]⟩
abbrev S1x1x1 : Shape := ⟨3, ![1, 1, 1]⟩
abbrev S4x256 : Shape := ⟨2, ![4, 256]⟩
abbrev S8192x4 : Shape := ⟨2, ![8192, 4]⟩
abbrev S8x32x32x4 : Shape := ⟨4, ![8, 32, 32, 4]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8x256x32x32, .f32⟩
  | .hbm, ⟨1, _⟩ => ⟨S256x1024, .f32⟩
  | .hbm, ⟨2, _⟩ => ⟨S8x256x1024, .f32⟩
  | .hbm, ⟨3, _⟩ => ⟨S8x256x1024, .f32⟩
  | .hbm, ⟨4, _⟩ => ⟨S4x8192, .i32⟩
  | .hbm, ⟨5, _⟩ => ⟨S1x1, .f32⟩
  | .hbm, ⟨6, _⟩ => ⟨S8x256x32x32, .f32⟩
  | .hbm, ⟨7, _⟩ => ⟨S8192x4, .i32⟩
  | .hbm, ⟨8, _⟩ => ⟨S8x32x32x4, .i32⟩
  | .hbm, ⟨9, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S1x256x1024, .f32⟩
  | .local _ .vmem, ⟨4, _⟩ => ⟨S1x256x1024, .f32⟩
  | .local _ .vmem, ⟨5, _⟩ => ⟨S4x1024, .i32⟩
  | .local _ .vmem, ⟨6, _⟩ => ⟨S4x1024, .i32⟩
  | .local _ .vmem, ⟨7, _⟩ => ⟨S1x1, .f32⟩
  | .local _ .vmem, ⟨8, _⟩ => ⟨S512x1024, .bf16⟩
  | .local _ .vmem, ⟨9, _⟩ => ⟨S2048x1024, .bf16⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [BitOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "log51" => some ((Real.log 51 : ℝ) : EReal)
  | _ => none
-- ==== ReferenceIdeal.lean ====
abbrev S8x256x32x32 : Shape := ⟨4, ![8, 256, 32, 32]⟩
abbrev S256x1024 : Shape := ⟨2, ![256, 1024]⟩
abbrev S8x32x32x256 : Shape := ⟨4, ![8, 32, 32, 256]⟩
abbrev S8192x256 : Shape := ⟨2, ![8192, 256]⟩
abbrev S256x8192 : Shape := ⟨2, ![256, 8192]⟩
abbrev S_ : Shape := ⟨0, ![]⟩
abbrev S1024 : Shape := ⟨1, ![1024]⟩
abbrev S1x1024 : Shape := ⟨2, ![1, 1024]⟩
abbrev S1024x256 : Shape := ⟨2, ![1024, 256]⟩
abbrev S1024x1024 : Shape := ⟨2, ![1024, 1024]⟩
abbrev S1024x8192 : Shape := ⟨2, ![1024, 8192]⟩
abbrev S8192 : Shape := ⟨1, ![8192]⟩
abbrev S1024x1 : Shape := ⟨2, ![1024, 1]⟩
abbrev S1x8192 : Shape := ⟨2, ![1, 8192]⟩
abbrev S8192x1 : Shape := ⟨2, ![8192, 1]⟩
abbrev S8192x2 : Shape := ⟨2, ![8192, 2]⟩
abbrev S4x8192 : Shape := ⟨2, ![4, 8192]⟩
abbrev S8192x4 : Shape := ⟨2, ![8192, 4]⟩
abbrev S8x32x32x4 : Shape := ⟨4, ![8, 32, 32, 4]⟩

abbrev nBuf : Space → Nat
  | .hbm => 474
  | .vmem => 0
  | .smem => 0
  | _ => 0

abbrev hbmTy0_0 (i : Nat) : BufTy := match i % 128 with
  | 0 => ⟨S8x256x32x32, .f32⟩
  | 1 => ⟨S256x1024, .f32⟩
  | 2 => ⟨S8x32x32x256, .f32⟩
  | 3 => ⟨S8192x256, .f32⟩
  | 4 => ⟨S256x8192, .f32⟩
  | 5 => ⟨S256x1024, .f32⟩
  | 6 => ⟨S_, .f32⟩
  | 7 => ⟨S1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S256x1024, .f32⟩
  | 14 => ⟨S256x1024, .f32⟩
  | 15 => ⟨S1024x256, .f32⟩
  | 16 => ⟨S1024x1024, .f32⟩
  | 17 => ⟨S1024x256, .f32⟩
  | 18 => ⟨S1024x8192, .f32⟩
  | 19 => ⟨S8192, .i32⟩
  | 20 => ⟨S1024, .i32⟩
  | 21 => ⟨S1024x1, .i32⟩
  | 22 => ⟨S_, .i1⟩
  | 23 => ⟨S1024x8192, .i1⟩
  | 24 => ⟨S1024x8192, .f32⟩
  | 25 => ⟨S_, .f32⟩
  | 26 => ⟨S_, .f32⟩
  | 27 => ⟨S1024x8192, .f32⟩
  | 28 => ⟨S1024x8192, .f32⟩
  | 29 => ⟨S1024, .i32⟩
  | 30 => ⟨S1024x1, .i32⟩
  | 31 => ⟨S_, .f32⟩
  | 32 => ⟨S8192, .f32⟩
  | 33 => ⟨S1x8192, .f32⟩
  | 34 => ⟨S1024x8192, .f32⟩
  | 35 => ⟨S1024x8192, .i1⟩
  | 36 => ⟨S_, .i32⟩
  | 37 => ⟨S_, .i32⟩
  | 38 => ⟨S1024x8192, .i32⟩
  | 39 => ⟨S1024x8192, .i32⟩
  | 40 => ⟨S1024x8192, .i32⟩
  | 41 => ⟨S_, .i32⟩
  | 42 => ⟨S8192, .i32⟩
  | 43 => ⟨S1x8192, .i32⟩
  | 44 => ⟨S1024x8192, .i32⟩
  | 45 => ⟨S1024x8192, .i32⟩
  | 46 => ⟨S1024x8192, .i1⟩
  | 47 => ⟨S1024x8192, .i1⟩
  | 48 => ⟨S8192x1, .i32⟩
  | 49 => ⟨S8192x1, .i32⟩
  | 50 => ⟨S8192x2, .i32⟩
  | 51 => ⟨S8192, .f32⟩
  | 52 => ⟨S8192x1, .i32⟩
  | 53 => ⟨S8192x1, .i32⟩
  | 54 => ⟨S8192x2, .i32⟩
  | 55 => ⟨S8192, .f32⟩
  | 56 => ⟨S_, .f32⟩
  | 57 => ⟨S8192, .f32⟩
  | 58 => ⟨S8192, .f32⟩
  | 59 => ⟨S8192, .f32⟩
  | 60 => ⟨S8192x1, .i32⟩
  | 61 => ⟨S1024x8192, .f32⟩
  | 62 => ⟨S1x8192, .f32⟩
  | 63 => ⟨S1024x8192, .f32⟩
  | 64 => ⟨S1024x8192, .f32⟩
  | 65 => ⟨S1024x8192, .f32⟩
  | 66 => ⟨S1024x8192, .f32⟩
  | 67 => ⟨S_, .f32⟩
  | 68 => ⟨S_, .f32⟩
  | 69 => ⟨S1024x8192, .f32⟩
  | 70 => ⟨S1024x8192, .f32⟩
  | 71 => ⟨S1024, .i32⟩
  | 72 => ⟨S1024x1, .i32⟩
  | 73 => ⟨S_, .f32⟩
  | 74 => ⟨S8192, .f32⟩
  | 75 => ⟨S1x8192, .f32⟩
  | 76 => ⟨S1024x8192, .f32⟩
  | 77 => ⟨S1024x8192, .i1⟩
  | 78 => ⟨S_, .i32⟩
  | 79 => ⟨S_, .i32⟩
  | 80 => ⟨S1024x8192, .i32⟩
  | 81 => ⟨S1024x8192, .i32⟩
  | 82 => ⟨S1024x8192, .i32⟩
  | 83 => ⟨S_, .i32⟩
  | 84 => ⟨S8192, .i32⟩
  | 85 => ⟨S1x8192, .i32⟩
  | 86 => ⟨S1024x8192, .i32⟩
  | 87 => ⟨S1024x8192, .i32⟩
  | 88 => ⟨S1024x8192, .i1⟩
  | 89 => ⟨S1024x8192, .i1⟩
  | 90 => ⟨S8192x1, .i32⟩
  | 91 => ⟨S8192x1, .i32⟩
  | 92 => ⟨S8192x2, .i32⟩
  | 93 => ⟨S8192, .f32⟩
  | 94 => ⟨S8192x1, .i32⟩
  | 95 => ⟨S8192x1, .i32⟩
  | 96 => ⟨S8192x2, .i32⟩
  | 97 => ⟨S8192, .f32⟩
  | 98 => ⟨S8192x1, .i32⟩
  | 99 => ⟨S8192x1, .i32⟩
  | 100 => ⟨S8192x2, .i32⟩
  | 101 => ⟨S8192, .f32⟩
  | 102 => ⟨S8192x1, .i32⟩
  | 103 => ⟨S8192x1, .i32⟩
  | 104 => ⟨S8192x2, .i32⟩
  | 105 => ⟨S8192, .f32⟩
  | 106 => ⟨S_, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192x1, .i32⟩
  | 119 => ⟨S1024x8192, .f32⟩
  | 120 => ⟨S1x8192, .f32⟩
  | 121 => ⟨S1024x8192, .f32⟩
  | 122 => ⟨S1024x8192, .f32⟩
  | 123 => ⟨S8192x1, .i32⟩
  | 124 => ⟨S1024x8192, .f32⟩
  | 125 => ⟨S1x8192, .f32⟩
  | 126 => ⟨S1024x8192, .f32⟩
  | 127 => ⟨S1024x8192, .f32⟩
  | _ => ⟨S8x256x32x32, .f32⟩

abbrev hbmTy0_1 (i : Nat) : BufTy := match i % 128 with
  | 0 => ⟨S1024x8192, .f32⟩
  | 1 => ⟨S1024x8192, .f32⟩
  | 2 => ⟨S1024x8192, .f32⟩
  | 3 => ⟨S_, .f32⟩
  | 4 => ⟨S_, .f32⟩
  | 5 => ⟨S1024x8192, .f32⟩
  | 6 => ⟨S1024x8192, .f32⟩
  | 7 => ⟨S1024, .i32⟩
  | 8 => ⟨S1024x1, .i32⟩
  | 9 => ⟨S_, .f32⟩
  | 10 => ⟨S8192, .f32⟩
  | 11 => ⟨S1x8192, .f32⟩
  | 12 => ⟨S1024x8192, .f32⟩
  | 13 => ⟨S1024x8192, .i1⟩
  | 14 => ⟨S_, .i32⟩
  | 15 => ⟨S_, .i32⟩
  | 16 => ⟨S1024x8192, .i32⟩
  | 17 => ⟨S1024x8192, .i32⟩
  | 18 => ⟨S1024x8192, .i32⟩
  | 19 => ⟨S_, .i32⟩
  | 20 => ⟨S8192, .i32⟩
  | 21 => ⟨S1x8192, .i32⟩
  | 22 => ⟨S1024x8192, .i32⟩
  | 23 => ⟨S1024x8192, .i32⟩
  | 24 => ⟨S1024x8192, .i1⟩
  | 25 => ⟨S1024x8192, .i1⟩
  | 26 => ⟨S8192x1, .i32⟩
  | 27 => ⟨S8192x1, .i32⟩
  | 28 => ⟨S8192x2, .i32⟩
  | 29 => ⟨S8192, .f32⟩
  | 30 => ⟨S8192x1, .i32⟩
  | 31 => ⟨S8192x1, .i32⟩
  | 32 => ⟨S8192x2, .i32⟩
  | 33 => ⟨S8192, .f32⟩
  | 34 => ⟨S8192x1, .i32⟩
  | 35 => ⟨S8192x1, .i32⟩
  | 36 => ⟨S8192x2, .i32⟩
  | 37 => ⟨S8192, .f32⟩
  | 38 => ⟨S8192x1, .i32⟩
  | 39 => ⟨S8192x1, .i32⟩
  | 40 => ⟨S8192x2, .i32⟩
  | 41 => ⟨S8192, .f32⟩
  | 42 => ⟨S8192x1, .i32⟩
  | 43 => ⟨S8192x1, .i32⟩
  | 44 => ⟨S8192x2, .i32⟩
  | 45 => ⟨S8192, .f32⟩
  | 46 => ⟨S8192x1, .i32⟩
  | 47 => ⟨S8192x1, .i32⟩
  | 48 => ⟨S8192x2, .i32⟩
  | 49 => ⟨S8192, .f32⟩
  | 50 => ⟨S_, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192x1, .i32⟩
  | 82 => ⟨S1024x8192, .f32⟩
  | 83 => ⟨S1x8192, .f32⟩
  | 84 => ⟨S1024x8192, .f32⟩
  | 85 => ⟨S1024x8192, .f32⟩
  | 86 => ⟨S8192x1, .i32⟩
  | 87 => ⟨S1024x8192, .f32⟩
  | 88 => ⟨S1x8192, .f32⟩
  | 89 => ⟨S1024x8192, .f32⟩
  | 90 => ⟨S1024x8192, .f32⟩
  | 91 => ⟨S8192x1, .i32⟩
  | 92 => ⟨S1024x8192, .f32⟩
  | 93 => ⟨S1x8192, .f32⟩
  | 94 => ⟨S1024x8192, .f32⟩
  | 95 => ⟨S1024x8192, .f32⟩
  | 96 => ⟨S1024x8192, .f32⟩
  | 97 => ⟨S1024x8192, .f32⟩
  | 98 => ⟨S1024x8192, .f32⟩
  | 99 => ⟨S1024x8192, .f32⟩
  | 100 => ⟨S_, .f32⟩
  | 101 => ⟨S_, .f32⟩
  | 102 => ⟨S1024x8192, .f32⟩
  | 103 => ⟨S1024x8192, .f32⟩
  | 104 => ⟨S1024, .i32⟩
  | 105 => ⟨S1024x1, .i32⟩
  | 106 => ⟨S_, .f32⟩
  | 107 => ⟨S8192, .f32⟩
  | 108 => ⟨S1x8192, .f32⟩
  | 109 => ⟨S1024x8192, .f32⟩
  | 110 => ⟨S1024x8192, .i1⟩
  | 111 => ⟨S_, .i32⟩
  | 112 => ⟨S_, .i32⟩
  | 113 => ⟨S1024x8192, .i32⟩
  | 114 => ⟨S1024x8192, .i32⟩
  | 115 => ⟨S1024x8192, .i32⟩
  | 116 => ⟨S_, .i32⟩
  | 117 => ⟨S8192, .i32⟩
  | 118 => ⟨S1x8192, .i32⟩
  | 119 => ⟨S1024x8192, .i32⟩
  | 120 => ⟨S1024x8192, .i32⟩
  | 121 => ⟨S1024x8192, .i1⟩
  | 122 => ⟨S1024x8192, .i1⟩
  | 123 => ⟨S8192x1, .i32⟩
  | 124 => ⟨S8192x1, .i32⟩
  | 125 => ⟨S8192x2, .i32⟩
  | 126 => ⟨S8192, .f32⟩
  | 127 => ⟨S8192x1, .i32⟩
  | _ => ⟨S8x256x32x32, .f32⟩

abbrev hbmTy0_2 (i : Nat) : BufTy := match i % 128 with
  | 0 => ⟨S8192x1, .i32⟩
  | 1 => ⟨S8192x2, .i32⟩
  | 2 => ⟨S8192, .f32⟩
  | 3 => ⟨S8192x1, .i32⟩
  | 4 => ⟨S8192x1, .i32⟩
  | 5 => ⟨S8192x2, .i32⟩
  | 6 => ⟨S8192, .f32⟩
  | 7 => ⟨S8192x1, .i32⟩
  | 8 => ⟨S8192x1, .i32⟩
  | 9 => ⟨S8192x2, .i32⟩
  | 10 => ⟨S8192, .f32⟩
  | 11 => ⟨S8192x1, .i32⟩
  | 12 => ⟨S8192x1, .i32⟩
  | 13 => ⟨S8192x2, .i32⟩
  | 14 => ⟨S8192, .f32⟩
  | 15 => ⟨S8192x1, .i32⟩
  | 16 => ⟨S8192x1, .i32⟩
  | 17 => ⟨S8192x2, .i32⟩
  | 18 => ⟨S8192, .f32⟩
  | 19 => ⟨S8192x1, .i32⟩
  | 20 => ⟨S8192x1, .i32⟩
  | 21 => ⟨S8192x2, .i32⟩
  | 22 => ⟨S8192, .f32⟩
  | 23 => ⟨S8192x1, .i32⟩
  | 24 => ⟨S8192x1, .i32⟩
  | 25 => ⟨S8192x2, .i32⟩
  | 26 => ⟨S8192, .f32⟩
  | 27 => ⟨S_, .f32⟩
  | 28 => ⟨S8192, .f32⟩
  | 29 => ⟨S8192, .f32⟩
  | 30 => ⟨S8192, .f32⟩
  | 31 => ⟨S8192, .f32⟩
  | 32 => ⟨S8192, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S8192, .f32⟩
  | 49 => ⟨S8192, .f32⟩
  | 50 => ⟨S8192, .f32⟩
  | 51 => ⟨S8192, .f32⟩
  | 52 => ⟨S8192, .f32⟩
  | 53 => ⟨S8192, .f32⟩
  | 54 => ⟨S8192, .f32⟩
  | 55 => ⟨S8192, .f32⟩
  | 56 => ⟨S8192, .f32⟩
  | 57 => ⟨S8192, .f32⟩
  | 58 => ⟨S8192, .f32⟩
  | 59 => ⟨S8192, .f32⟩
  | 60 => ⟨S8192, .f32⟩
  | 61 => ⟨S8192, .f32⟩
  | 62 => ⟨S8192, .f32⟩
  | 63 => ⟨S8192, .f32⟩
  | 64 => ⟨S8192, .f32⟩
  | 65 => ⟨S8192, .f32⟩
  | 66 => ⟨S8192, .f32⟩
  | 67 => ⟨S8192, .f32⟩
  | 68 => ⟨S8192, .f32⟩
  | 69 => ⟨S8192, .f32⟩
  | 70 => ⟨S8192, .f32⟩
  | 71 => ⟨S8192, .f32⟩
  | 72 => ⟨S8192, .f32⟩
  | 73 => ⟨S8192, .f32⟩
  | 74 => ⟨S8192, .f32⟩
  | 75 => ⟨S8192, .f32⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S8192, .f32⟩
  | 85 => ⟨S8192, .f32⟩
  | 86 => ⟨S8192, .f32⟩
  | 87 => ⟨S8192, .f32⟩
  | 88 => ⟨S8192, .f32⟩
  | 89 => ⟨S8192, .f32⟩
  | 90 => ⟨S8192, .f32⟩
  | 91 => ⟨S8192, .f32⟩
  | 92 => ⟨S1x8192, .f32⟩
  | 93 => ⟨S1x8192, .f32⟩
  | 94 => ⟨S1x8192, .f32⟩
  | 95 => ⟨S1x8192, .f32⟩
  | 96 => ⟨S4x8192, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S4x8192, .f32⟩
  | 105 => ⟨S4x8192, .f32⟩
  | 106 => ⟨S_, .f32⟩
  | 107 => ⟨S4x8192, .f32⟩
  | 108 => ⟨S4x8192, .f32⟩
  | 109 => ⟨S_, .f32⟩
  | 110 => ⟨S4x8192, .f32⟩
  | 111 => ⟨S4x8192, .f32⟩
  | 112 => ⟨S4x8192, .f32⟩
  | 113 => ⟨S4x8192, .f32⟩
  | 114 => ⟨S_, .f32⟩
  | 115 => ⟨S4x8192, .f32⟩
  | 116 => ⟨S4x8192, .f32⟩
  | 117 => ⟨S4x8192, .f32⟩
  | 118 => ⟨S4x8192, .f32⟩
  | 119 => ⟨S4x8192, .f32⟩
  | 120 => ⟨S4x8192, .f32⟩
  | 121 => ⟨S_, .f32⟩
  | 122 => ⟨S4x8192, .f32⟩
  | 123 => ⟨S4x8192, .f32⟩
  | 124 => ⟨S_, .f32⟩
  | 125 => ⟨S4x8192, .f32⟩
  | 126 => ⟨S4x8192, .f32⟩
  | 127 => ⟨S4x8192, .f32⟩
  | _ => ⟨S8x256x32x32, .f32⟩

abbrev hbmTy0_3 (i : Nat) : BufTy := match i % 128 with
  | 0 => ⟨S4x8192, .i32⟩
  | 1 => ⟨S_, .i32⟩
  | 2 => ⟨S_, .i32⟩
  | 3 => ⟨S_, .i32⟩
  | 4 => ⟨S4x8192, .i32⟩
  | 5 => ⟨S4x8192, .i32⟩
  | 6 => ⟨S_, .i32⟩
  | 7 => ⟨S4x8192, .i32⟩
  | 8 => ⟨S4x8192, .i32⟩
  | 9 => ⟨S4x8192, .f32⟩
  | 10 => ⟨S_, .f32⟩
  | 11 => ⟨S4x8192, .f32⟩
  | 12 => ⟨S4x8192, .f32⟩
  | 13 => ⟨S_, .f32⟩
  | 14 => ⟨S4x8192, .f32⟩
  | 15 => ⟨S4x8192, .f32⟩
  | 16 => ⟨S4x8192, .f32⟩
  | 17 => ⟨S4x8192, .f32⟩
  | 18 => ⟨S4x8192, .f32⟩
  | 19 => ⟨S4x8192, .f32⟩
  | 20 => ⟨S4x8192, .f32⟩
  | 21 => ⟨S_, .f32⟩
  | 22 => ⟨S4x8192, .f32⟩
  | 23 => ⟨S4x8192, .f32⟩
  | 24 => ⟨S4x8192, .f32⟩
  | 25 => ⟨S_, .f32⟩
  | 26 => ⟨S4x8192, .f32⟩
  | 27 => ⟨S4x8192, .f32⟩
  | 28 => ⟨S8192x1, .i32⟩
  | 29 => ⟨S256x8192, .f32⟩
  | 30 => ⟨S1x8192, .f32⟩
  | 31 => ⟨S8192, .f32⟩
  | 32 => ⟨S1x8192, .f32⟩
  | 33 => ⟨S256x8192, .f32⟩
  | 34 => ⟨S256x8192, .f32⟩
  | 35 => ⟨S8192x1, .i32⟩
  | 36 => ⟨S256x8192, .f32⟩
  | 37 => ⟨S1x8192, .f32⟩
  | 38 => ⟨S8192, .f32⟩
  | 39 => ⟨S1x8192, .f32⟩
  | 40 => ⟨S256x8192, .f32⟩
  | 41 => ⟨S256x8192, .f32⟩
  | 42 => ⟨S8192x1, .i32⟩
  | 43 => ⟨S256x8192, .f32⟩
  | 44 => ⟨S1x8192, .f32⟩
  | 45 => ⟨S8192, .f32⟩
  | 46 => ⟨S1x8192, .f32⟩
  | 47 => ⟨S256x8192, .f32⟩
  | 48 => ⟨S256x8192, .f32⟩
  | 49 => ⟨S8192x1, .i32⟩
  | 50 => ⟨S256x8192, .f32⟩
  | 51 => ⟨S1x8192, .f32⟩
  | 52 => ⟨S8192, .f32⟩
  | 53 => ⟨S1x8192, .f32⟩
  | 54 => ⟨S256x8192, .f32⟩
  | 55 => ⟨S256x8192, .f32⟩
  | 56 => ⟨S256x8192, .f32⟩
  | 57 => ⟨S256x8192, .f32⟩
  | 58 => ⟨S256x8192, .f32⟩
  | 59 => ⟨S8192x256, .f32⟩
  | 60 => ⟨S8x32x32x256, .f32⟩
  | 61 => ⟨S8x256x32x32, .f32⟩
  | 62 => ⟨S8x256x32x32, .f32⟩
  | 63 => ⟨S8x256x32x32, .f32⟩
  | 64 => ⟨S_, .f32⟩
  | 65 => ⟨S_, .f32⟩
  | 66 => ⟨S_, .f32⟩
  | 67 => ⟨S_, .f32⟩
  | 68 => ⟨S8x256x32x32, .f32⟩
  | 69 => ⟨S8x256x32x32, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S1x8192, .i32⟩
  | 78 => ⟨S1x8192, .i32⟩
  | 79 => ⟨S1x8192, .i32⟩
  | 80 => ⟨S1x8192, .i32⟩
  | 81 => ⟨S4x8192, .i32⟩
  | 82 => ⟨S_, .i32⟩
  | 83 => ⟨S4x8192, .i32⟩
  | 84 => ⟨S4x8192, .i32⟩
  | 85 => ⟨S4x8192, .i32⟩
  | 86 => ⟨S8192x4, .i32⟩
  | 87 => ⟨S8x32x32x4, .i32⟩
  | 88 => ⟨S8x256x32x32, .f32⟩
  | 89 => ⟨S8x256x32x32, .f32⟩
  | _ => ⟨S8x256x32x32, .f32⟩

abbrev hbmTy (i : Nat) : BufTy := match i / 128 with
  | 0 => hbmTy0_0 i
  | 1 => hbmTy0_1 i
  | 2 => hbmTy0_2 i
  | 3 => hbmTy0_3 i
  | _ => ⟨S8x256x32x32, .f32⟩

abbrev bufTy : (tb : Table) → Fin (tcTables nBuf tb) → BufTy
  | .hbm, ⟨i, _⟩ => hbmTy i
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_8 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v59 : Ref sig .tc := ⟨.hbm, 82, rfl⟩
abbrev main_c_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_10 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_11 : Ref sig .tc := ⟨.hbm, 131, rfl⟩
abbrev main_call4_v0 : Ref sig .tc := ⟨.hbm, 132, rfl⟩
abbrev main_call4_v1 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_12 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_c_13 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_v113 : Ref sig .tc := ⟨.hbm, 146, rfl⟩
abbrev main_c_14 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_15 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_cst_16 : Ref sig .tc := ⟨.hbm, 228, rfl⟩
abbrev main_call6_v0 : Ref sig .tc := ⟨.hbm, 229, rfl⟩
abbrev main_call6_v1 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_cst_17 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_c_18 : Ref sig .tc := ⟨.hbm, 239, rfl⟩
abbrev main_call7_v0 : Ref sig .tc := ⟨.hbm, 240, rfl⟩
abbrev main_call7_v1 : Ref sig .tc := ⟨.hbm, 241, rfl⟩
abbrev main_call7_v2 : Ref sig .tc := ⟨.hbm, 242, rfl⟩
abbrev main_v200 : Ref sig .tc := ⟨.hbm, 243, rfl⟩
abbrev main_c_19 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_cst_20 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_cst_21 : Ref sig .tc := ⟨.hbm, 353, rfl⟩
abbrev main_v308 : Ref sig .tc := ⟨.hbm, 354, rfl⟩
abbrev main_cst_22 : Ref sig .tc := ⟨.hbm, 355, rfl⟩
abbrev main_v309 : Ref sig .tc := ⟨.hbm, 356, rfl⟩
abbrev main_cst_23 : Ref sig .tc := ⟨.hbm, 357, rfl⟩
abbrev main_cst_24 : Ref sig .tc := ⟨.hbm, 358, rfl⟩
abbrev main_call8_v0 : Ref sig .tc := ⟨.hbm, 359, rfl⟩
abbrev main_call8_v1 : Ref sig .tc := ⟨.hbm, 360, rfl⟩
abbrev main_call8_v2 : Ref sig .tc := ⟨.hbm, 361, rfl⟩
abbrev main_call8_v3 : Ref sig .tc := ⟨.hbm, 362, rfl⟩
abbrev main_call8_v4 : Ref sig .tc := ⟨.hbm, 363, rfl⟩
abbrev main_v310 : Ref sig .tc := ⟨.hbm, 364, rfl⟩
abbrev main_cst_25 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_cst_26 : Ref sig .tc := ⟨.hbm, 370, rfl⟩
abbrev main_v315 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_v319 : Ref sig .tc := ⟨.hbm, 375, rfl⟩
abbrev main_v320 : Ref sig .tc := ⟨.hbm, 376, rfl⟩
abbrev main_cst_27 : Ref sig .tc := ⟨.hbm, 377, rfl⟩
abbrev main_v321 : Ref sig .tc := ⟨.hbm, 378, rfl⟩
abbrev main_v322 : Ref sig .tc := ⟨.hbm, 379, rfl⟩
abbrev main_cst_28 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_v326 : Ref sig .tc := ⟨.hbm, 384, rfl⟩
abbrev main_c_29 : Ref sig .tc := ⟨.hbm, 385, rfl⟩
abbrev main_c_30 : Ref sig .tc := ⟨.hbm, 386, rfl⟩
abbrev main_call10_v0 : Ref sig .tc := ⟨.hbm, 387, rfl⟩
abbrev main_call10_v1 : Ref sig .tc := ⟨.hbm, 388, rfl⟩
abbrev main_call10_v2 : Ref sig .tc := ⟨.hbm, 389, rfl⟩
abbrev main_call10_v3 : Ref sig .tc := ⟨.hbm, 390, rfl⟩
abbrev main_call10_v4 : Ref sig .tc := ⟨.hbm, 391, rfl⟩
abbrev main_v327 : Ref sig .tc := ⟨.hbm, 392, rfl⟩
abbrev main_v328 : Ref sig .tc := ⟨.hbm, 393, rfl⟩
abbrev main_cst_31 : Ref sig .tc := ⟨.hbm, 394, rfl⟩
abbrev main_v329 : Ref sig .tc := ⟨.hbm, 395, rfl⟩
abbrev main_v330 : Ref sig .tc := ⟨.hbm, 396, rfl⟩
abbrev main_cst_32 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_cst_33 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_cst_34 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_v344 : Ref sig .tc := ⟨.hbm, 413, rfl⟩
abbrev main_v345 : Ref sig .tc := ⟨.hbm, 414, rfl⟩
abbrev main_v346 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_v354 : Ref sig .tc := ⟨.hbm, 423, rfl⟩
abbrev main_v355 : Ref sig .tc := ⟨.hbm, 424, rfl⟩
abbrev main_v356 : Ref sig .tc := ⟨.hbm, 425, rfl⟩
abbrev main_v357 : Ref sig .tc := ⟨.hbm, 426, rfl⟩
abbrev main_v358 : Ref sig .tc := ⟨.hbm, 427, rfl⟩
abbrev main_v359 : Ref sig .tc := ⟨.hbm, 428, rfl⟩
abbrev main_v360 : Ref sig .tc := ⟨.hbm, 429, rfl⟩
abbrev main_v361 : Ref sig .tc := ⟨.hbm, 430, rfl⟩
abbrev main_v362 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_v368 : Ref sig .tc := ⟨.hbm, 437, rfl⟩
abbrev main_v369 : Ref sig .tc := ⟨.hbm, 438, rfl⟩
abbrev main_v370 : Ref sig .tc := ⟨.hbm, 439, rfl⟩
abbrev main_v371 : Ref sig .tc := ⟨.hbm, 440, rfl⟩
abbrev main_v372 : Ref sig .tc := ⟨.hbm, 441, rfl⟩
abbrev main_v373 : Ref sig .tc := ⟨.hbm, 442, rfl⟩
abbrev main_v374 : Ref sig .tc := ⟨.hbm, 443, rfl⟩
abbrev main_v375 : Ref sig .tc := ⟨.hbm, 444, rfl⟩
abbrev main_v376 : Ref sig .tc := ⟨.hbm, 445, rfl⟩
abbrev main_v377 : Ref sig .tc := ⟨.hbm, 446, rfl⟩
abbrev main_v378 : Ref sig .tc := ⟨.hbm, 447, rfl⟩
abbrev main_cst_35 : Ref sig .tc := ⟨.hbm, 448, rfl⟩
abbrev main_v379 : Ref sig .tc := ⟨.hbm, 449, rfl⟩
abbrev main_cst_36 : Ref sig .tc := ⟨.hbm, 450, rfl⟩
abbrev main_v380 : Ref sig .tc := ⟨.hbm, 451, rfl⟩
abbrev main_v381 : Ref sig .tc := ⟨.hbm, 452, rfl⟩
abbrev main_v382 : Ref sig .tc := ⟨.hbm, 453, rfl⟩
abbrev main_cst_37 : Ref sig .tc := ⟨.hbm, 454, rfl⟩
abbrev main_v383 : Ref sig .tc := ⟨.hbm, 455, rfl⟩
abbrev main_cst_38 : Ref sig .tc := ⟨.hbm, 456, rfl⟩
abbrev main_v384 : Ref sig .tc := ⟨.hbm, 457, rfl⟩
abbrev main_cst_39 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_v389 : Ref sig .tc := ⟨.hbm, 463, rfl⟩
abbrev main_v390 : Ref sig .tc := ⟨.hbm, 464, rfl⟩
abbrev main_v391 : Ref sig .tc := ⟨.hbm, 465, rfl⟩
abbrev main_c_40 : Ref sig .tc := ⟨.hbm, 466, rfl⟩
abbrev main_v392 : Ref sig .tc := ⟨.hbm, 467, rfl⟩
abbrev main_v393 : Ref sig .tc := ⟨.hbm, 468, rfl⟩
abbrev main_v394 : Ref sig .tc := ⟨.hbm, 469, rfl⟩
abbrev main_v395 : Ref sig .tc := ⟨.hbm, 470, rfl⟩
abbrev main_v396 : Ref sig .tc := ⟨.hbm, 471, rfl⟩
abbrev main_v397 : Ref sig .tc := ⟨.hbm, 472, rfl⟩
abbrev main_v398 : Ref sig .tc := ⟨.hbm, 473, rfl⟩

abbrev nD : Nat := 1
abbrev τ : Topo := Topo.v7x

variable {F : FTy → Type} [FloatOps F]
-- ==== Proof.KSetup.lean ====
module

public import proofs.«01_k».proof.Proof.Gen.Kernel.Frame
public import proofs.«01_k».proof.Proof.Gen.Kernel.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the lines after the region write. -/
def T0 : Finset (Ref sig .tc) := {main_v2, main_v3, main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame, from the run. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x1024 .bf16 := Memref.whole cc0_scratch0
abbrev scM0_1 : Memref sig .tc .vmem S2048x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
module

public import proofs.«01_k».proof.Proof.KSetup

@[expose] public section

set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body on whole buffers, at the case's points: the inputs come back as they were, everything else at something. -/
theorem kernelRun0_A (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole) (hc0 : cond0_0 i)
    (x0 : Vec F S1x256x1024 .f32) (x1 : Vec F S256x1024 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__omp_body i arg1 harg1 arg2 harg2 arg3 harg3 arg4 harg4 arg5 harg5 arg6 harg6 arg7 harg7) K := by
    intro E K
    simp only [cc0__omp_body_eq_skeleton]; unfold cc0__omp_body_skel
    simp only [k0_part49_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Hand

end
-- ==== Proof.KRunB.lean ====
module

public import proofs.«01_k».proof.Proof.KRunA

@[expose] public section

set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body on whole buffers, at the case's points: the inputs come back as they were, everything else at something. -/
theorem kernelRun0_B (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole) (hc0 : ¬cond0_0 i)
    (x0 : Vec F S1x256x1024 .f32) (x1 : Vec F S256x1024 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__omp_body i arg1 harg1 arg2 harg2 arg3 harg3 arg4 harg4 arg5 harg5 arg6 harg6 arg7 harg7) K := by
    intro E K
    simp only [cc0__omp_body_eq_skeleton]; unfold cc0__omp_body_skel
    simp only [k0_part49_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, ⟨%ds1, %fs1, -, HS1⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Hand

end
-- ==== Proof.KFrame.lean ====
module

public import proofs.«01_k».proof.Proof.KRunB
public import Idealize.ShloMosaic.Lib.Claim

@[expose] public section

set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (2, 3, 4): nothing reads what the kernel leaves in them, so nothing
    of it is named (Lib/Pipeline/Dat.lean `Dat.toRForget`). -/
def forgets0 : Fin 5 → Bool := fun w => w.val == 2 || w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  have hN : t.val < 8 := lt_of_lt_of_eq t.isLt (show cfg0.N = 8 from N_0)
  by_cases h0 : t.val % 8 = 0
  · iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr h0) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · iintro ⟨⟨⟨HS0, HS1⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ (fun h => h0 ((hcond0_0 t).mp h)) (iblk m c 0 t) (iblk m c 1 t)) Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Hand

end
-- ==== Proof.Setup.lean ====
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 2, through which its contents are stated (`View.read_writes_of_cover`: the
    choice does not matter). -/
abbrev VO0_2 : View sig .tc .vmem S1x256x1024 .f32 := (Memref.whole cc0_stg2_0 : Memref sig .tc .vmem S1x256x1024 .f32).view
/-- One staging buffer of output window 3, through which its contents are stated (`View.read_writes_of_cover`: the
    choice does not matter). -/
abbrev VO0_3 : View sig .tc .vmem S4x1024 .i32 := (Memref.whole cc0_stg3_0 : Memref sig .tc .vmem S4x1024 .i32).view
/-- One staging buffer of output window 4, through which its contents are stated (`View.read_writes_of_cover`: the
    choice does not matter). -/
abbrev VO0_4 : View sig .tc .vmem S1x1 .f32 := (Memref.whole cc0_stg4_0 : Memref sig .tc .vmem S1x1 .f32).view
/-- Each window's current staging memref at point `t`, spelled as the pipeline passes it (`bodyAt0`), and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x1024 .bf16 := Memref.whole cc0_scratch0
abbrev scM0_1 : Memref sig .tc .vmem S2048x1024 .bf16 := Memref.whole cc0_scratch1
/-- The scratch `arg6` the kernel carries between points, as a view: what it holds is stated through it. -/
abbrev VS0_0 : View sig .tc .vmem S512x1024 .bf16 := scM0_0.view
/-- The scratch `arg7` the kernel carries between points, as a view: what it holds is stated through it. -/
abbrev VS0_1 : View sig .tc .vmem S2048x1024 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Slab.lean ====
module

public import proofs.«01_k».proof.Proof.Setup

@[expose] public section

set_option maxRecDepth 16384

noncomputable section

/-! # One slab of 256 signals, as the body computes it

The body works on four slabs of 256 columns side by side. Every slab is the same computation on the slab's columns and
on the two tables the scratch buffers hold; here it is stated once, stage by stage. -/

namespace Cert.KernelIdeal.Hand

open Cert.KernelIdeal.Gen
open Idealize.ShloMosaic Idealize.ShloMosaic.TcCoe Idealize.ShloMosaic.Tactic

variable {F : FTy → Type} [FloatOps F] [Named F]

/-! ## The pieces every stage is made of -/

/-- The row holding one number everywhere. -/
def rowC (b : BitVec 32) : FVec F S1x256 .f32 := broadcast S1x256 (Scalar.ofBits .f32 b)

/-- The atom's number at every entry. -/
def iotaN : IVec S1024x256 32 := iota .tc S1024x256 32 [0] iota_S1024x256_d0_w32

/-- Column sums of a product. -/
def colSum (a b : FVec F S256x256 .f32) : FVec F S1x256 .f32 :=
  shapeCast S1x256 (multiReduction .add [0] S256 (mulf a b) 0x00000000#32 reduces_S256x256_S256 (.inl rfl) rfl)
    shapeCasts_S256_S1x256

/-- Magnitudes, with the atoms already taken set to minus one. -/
def absMasked (mask : IVec S1024x256 1) (corr : FVec F S1024x256 .f32) : FVec F S1024x256 .f32 :=
  select mask (broadcast S1024x256 (Scalar.ofBits .f32 0xBF800000#32)) (absf corr)

/-- The first atom of largest magnitude in every column. -/
def selOf (absc : FVec F S1024x256 .f32) : IVec S1x256 32 :=
  shapeCast S1x256 (multiReductionI .minsi [0] S256
    (select (cmpf .oeq absc (broadcastTo S1024x256 (shapeCast S1x256
        (multiReduction .maximumf [0] S256 absc 0xFF800000#32 reduces_S1024x256_S256 (.inl rfl) rfl) shapeCasts_S256_S1x256)
        broadcasts_S1x256_S1024x256))
      iotaN (broadcast S1024x256 1024#32)) 2147483647#32 reduces_S1024x256_S256 rfl) shapeCasts_S256_S1x256

/-- Where an atom is the selected one. -/
def hotOf (sel : IVec S1x256 32) : IVec S1024x256 1 :=
  cmpi .eq iotaN (broadcastTo S1024x256 sel broadcasts_S1x256_S1024x256)

/-- The same as numbers. -/
def unitOf (hot : IVec S1024x256 1) : FVec F S1024x256 .bf16 :=
  truncf .bf16 (sitofp .f32 (extui 32 hot natLt_1_32)) bitsLt_bf16_f32

/-- Both halves of the selected dictionary columns. -/
def atomOf (dstk : Vec F S512x1024 .bf16) (hot : IVec S1024x256 1) : FVec F S512x256 .f32 :=
  matmul dot_S512x1024_S1024x256_S512x256_1_0_0_1_n_n none dstk (unitOf hot) (constant S512x256 .f32 0x00000000#32)

/-- The upper half: the rounded atom. -/
def atomHi (dstk : Vec F S512x1024 .bf16) (hot : IVec S1024x256 1) : FVec F S256x256 .f32 :=
  extractStridedSlice S256x256 ![0, 0] (atomOf dstk hot) slices_S512x256_o0_0_S256x256

/-- The lower half: what rounding the atom left over. -/
def atomLo (dstk : Vec F S512x1024 .bf16) (hot : IVec S1024x256 1) : FVec F S256x256 .f32 :=
  extractStridedSlice S256x256 ![256, 0] (atomOf dstk hot) slices_S512x256_o256_0_S256x256

/-- The selected columns of the Gram table, both halves of the product. -/
def gramBoth (gstk : Vec F S2048x1024 .bf16) (hot : IVec S1024x256 1) : FVec F S2048x256 .f32 :=
  matmul dot_S2048x1024_S1024x256_S2048x256_1_0_0_1_n_n none gstk (unitOf hot) (constant S2048x256 .f32 0x00000000#32)

/-- The selected columns of the Gram table. -/
def gramCol (gstk : Vec F S2048x1024 .bf16) (hot : IVec S1024x256 1) : FVec F S1024x256 .f32 :=
  addf (extractStridedSlice S1024x256 ![0, 0] (gramBoth gstk hot) slices_S2048x256_o0_0_S1024x256)
    (extractStridedSlice S1024x256 ![1024, 0] (gramBoth gstk hot) slices_S2048x256_o1024_0_S1024x256)

/-- A row of coefficients times selected columns. -/
def scaleRow (c : FVec F S1x256 .f32) (g : FVec F S1024x256 .f32) : FVec F S1024x256 .f32 :=
  mulf (broadcastTo S1024x256 c broadcasts_S1x256_S1024x256) g

/-! ## The quantiser -/

/-- The sign, written with comparisons. -/
def signOf (z : FVec F S1x256 .f32) : FVec F S1x256 .f32 :=
  select (cmpf .ogt (absf z) (rowC 0x00000000#32))
    (select (cmpf .olt z (constant S1x256 .f32 0x00000000#32)) (constant S1x256 .f32 0xBF800000#32)
      (constant S1x256 .f32 0x3F800000#32)) z

/-- The named number log 51 in every column. -/
def rowLog : FVec F S1x256 .f32 := broadcast S1x256 (Named.named κ "log51" 0x407BA308#32)

/-- A coefficient clipped and scaled to the unit interval. -/
def unitCoef (c : FVec F S1x256 .f32) : FVec F S1x256 .f32 :=
  divf (minimumf (rowC 0x40400000#32) (maximumf (rowC 0xC0400000#32) c)) (rowC 0x40400000#32)

/-- The bin of a coefficient, as a number. -/
def binOf (c : FVec F S1x256 .f32) : FVec F S1x256 .f32 :=
  minimumf (rowC 0x41700000#32) (maximumf (rowC 0x00000000#32) (roundeven
    (mulf (addf (mulf (signOf (unitCoef c))
        (divf (log1p (mulf (absf (unitCoef c)) (rowC 0x42480000#32))) rowLog)) (rowC 0x3F800000#32))
      (rowC 0x40F00000#32))))

/-- The bin's place in the unit interval. -/
def placeOf (b : FVec F S1x256 .f32) : FVec F S1x256 .f32 :=
  subf (mulf b (rowC 0x3E088889#32)) (rowC 0x3F800000#32)

/-- The coefficient a bin stands for. -/
def coefOf (b : FVec F S1x256 .f32) : FVec F S1x256 .f32 :=
  mulf (mulf (signOf (placeOf b))
    (divf (subf (exp (mulf (absf (placeOf b)) rowLog)) (rowC 0x3F800000#32)) (rowC 0x42480000#32))) (rowC 0x40400000#32)

/-- A token: the atom's number and the bin's. -/
def tokOf (sel : IVec S1x256 32) (b : FVec F S1x256 .f32) : IVec S1x256 32 :=
  addi (muli sel (broadcast S1x256 16#32)) (fptosi 32 b)

/-! ## The stages of one slab -/

section Stages
variable (dstk : Vec F S512x1024 .bf16) (gstk : Vec F S2048x1024 .bf16) (x : FVec F S256x256 .f32)

def xr : FVec F S256x256 .f32 := extf .f32 (truncf .bf16 x bitsLt_bf16_f32 : FVec F S256x256 .bf16) bitsLt_bf16_f32

def alpha : FVec F S1024x256 .f32 :=
  matmul dot_S256x1024_S256x256_S1024x256_0_0_1_1_n_n none
    (extractStridedSlice S256x1024 ![0, 0] dstk slices_S512x1024_o0_0_S256x1024) (truncf .bf16 x bitsLt_bf16_f32)
    (constant S1024x256 .f32 0x00000000#32)

def sel0 : IVec S1x256 32 := selOf (absMasked (broadcast S1024x256 0#1) (alpha dstk x))
def hot0 : IVec S1024x256 1 := hotOf (sel0 dstk x)
def mask0 : IVec S1024x256 1 := ori (broadcast S1024x256 0#1) (hot0 dstk x)
def at0 : FVec F S256x256 .f32 := atomHi dstk (hot0 dstk x)
def b0 : FVec F S1x256 .f32 := colSum (at0 dstk x) (xr x)
def g00 : FVec F S1x256 .f32 := colSum (at0 dstk x) (at0 dstk x)
def d0 : FVec F S1x256 .f32 := addf (g00 dstk x) (rowC 0x322BCC77#32)
def r0 : FVec F S1x256 .f32 := divf (rowC 0x3F800000#32) (d0 dstk x)
def z0 : FVec F S1x256 .f32 := divf (b0 dstk x) (d0 dstk x)
def gc0 : FVec F S1024x256 .f32 := gramCol gstk (hot0 dstk x)
def corr1 : FVec F S1024x256 .f32 := subf (alpha dstk x) (scaleRow (z0 dstk x) (gc0 dstk gstk x))

def sel1 : IVec S1x256 32 := selOf (absMasked (mask0 dstk x) (corr1 dstk gstk x))
def hot1 : IVec S1024x256 1 := hotOf (sel1 dstk gstk x)
def mask1 : IVec S1024x256 1 := ori (mask0 dstk x) (hot1 dstk gstk x)
def at1 : FVec F S256x256 .f32 := atomHi dstk (hot1 dstk gstk x)
def b1 : FVec F S1x256 .f32 := colSum (at1 dstk gstk x) (xr x)
def g10 : FVec F S1x256 .f32 := colSum (at1 dstk gstk x) (at0 dstk x)
def g11 : FVec F S1x256 .f32 := colSum (at1 dstk gstk x) (at1 dstk gstk x)
def l10 : FVec F S1x256 .f32 := mulf (g10 dstk gstk x) (r0 dstk x)
def d1 : FVec F S1x256 .f32 :=
  subf (addf (g11 dstk gstk x) (rowC 0x322BCC77#32)) (mulf (mulf (l10 dstk gstk x) (l10 dstk gstk x)) (d0 dstk x))
def r1 : FVec F S1x256 .f32 := divf (rowC 0x3F800000#32) (d1 dstk gstk x)
def y1 : FVec F S1x256 .f32 := subf (b1 dstk gstk x) (mulf (l10 dstk gstk x) (b0 dstk x))
def z1 : FVec F S1x256 .f32 := divf (y1 dstk gstk x) (d1 dstk gstk x)
def c10 : FVec F S1x256 .f32 := subf (z0 dstk x) (mulf (l10 dstk gstk x) (z1 dstk gstk x))
def gc1 : FVec F S1024x256 .f32 := gramCol gstk (hot1 dstk gstk x)
def corr2 : FVec F S1024x256 .f32 :=
  subf (alpha dstk x) (addf (scaleRow (c10 dstk gstk x) (gc0 dstk gstk x)) (scaleRow (z1 dstk gstk x) (gc1 dstk gstk x)))

def sel2 : IVec S1x256 32 := selOf (absMasked (mask1 dstk gstk x) (corr2 dstk gstk x))
def hot2 : IVec S1024x256 1 := hotOf (sel2 dstk gstk x)
def mask2 : IVec S1024x256 1 := ori (mask1 dstk gstk x) (hot2 dstk gstk x)
def at2 : FVec F S256x256 .f32 := atomHi dstk (hot2 dstk gstk x)
def b2 : FVec F S1x256 .f32 := colSum (at2 dstk gstk x) (xr x)
def g20 : FVec F S1x256 .f32 := colSum (at2 dstk gstk x) (at0 dstk x)
def g21 : FVec F S1x256 .f32 := colSum (at2 dstk gstk x) (at1 dstk gstk x)
def g22 : FVec F S1x256 .f32 := colSum (at2 dstk gstk x) (at2 dstk gstk x)
def l20 : FVec F S1x256 .f32 := mulf (g20 dstk gstk x) (r0 dstk x)
def l21 : FVec F S1x256 .f32 :=
  mulf (subf (g21 dstk gstk x) (mulf (mulf (l20 dstk gstk x) (l10 dstk gstk x)) (d0 dstk x))) (r1 dstk gstk x)
def d2 : FVec F S1x256 .f32 :=
  subf (subf (addf (g22 dstk gstk x) (rowC 0x322BCC77#32)) (mulf (mulf (l20 dstk gstk x) (l20 dstk gstk x)) (d0 dstk x)))
    (mulf (mulf (l21 dstk gstk x) (l21 dstk gstk x)) (d1 dstk gstk x))
def r2 : FVec F S1x256 .f32 := divf (rowC 0x3F800000#32) (d2 dstk gstk x)
def y2 : FVec F S1x256 .f32 :=
  subf (subf (b2 dstk gstk x) (mulf (l20 dstk gstk x) (b0 dstk x))) (mulf (l21 dstk gstk x) (y1 dstk gstk x))
def z2 : FVec F S1x256 .f32 := divf (y2 dstk gstk x) (d2 dstk gstk x)
def c21 : FVec F S1x256 .f32 := subf (z1 dstk gstk x) (mulf (l21 dstk gstk x) (z2 dstk gstk x))
def c20 : FVec F S1x256 .f32 :=
  subf (subf (z0 dstk x) (mulf (l10 dstk gstk x) (c21 dstk gstk x))) (mulf (l20 dstk gstk x) (z2 dstk gstk x))
def gc2 : FVec F S1024x256 .f32 := gramCol gstk (hot2 dstk gstk x)
def corr3 : FVec F S1024x256 .f32 :=
  subf (alpha dstk x) (addf (addf (scaleRow (c20 dstk gstk x) (gc0 dstk gstk x)) (scaleRow (c21 dstk gstk x) (gc1 dstk gstk x)))
    (scaleRow (z2 dstk gstk x) (gc2 dstk gstk x)))

def sel3 : IVec S1x256 32 := selOf (absMasked (mask2 dstk gstk x) (corr3 dstk gstk x))
def hot3 : IVec S1024x256 1 := hotOf (sel3 dstk gstk x)
def at3 : FVec F S256x256 .f32 := atomHi dstk (hot3 dstk gstk x)
def b3 : FVec F S1x256 .f32 := colSum (at3 dstk gstk x) (xr x)
def g30 : FVec F S1x256 .f32 := colSum (at3 dstk gstk x) (at0 dstk x)
def g31 : FVec F S1x256 .f32 := colSum (at3 dstk gstk x) (at1 dstk gstk x)
def g32 : FVec F S1x256 .f32 := colSum (at3 dstk gstk x) (at2 dstk gstk x)
def g33 : FVec F S1x256 .f32 := colSum (at3 dstk gstk x) (at3 dstk gstk x)
def l30 : FVec F S1x256 .f32 := mulf (g30 dstk gstk x) (r0 dstk x)
def l31 : FVec F S1x256 .f32 :=
  mulf (subf (g31 dstk gstk x) (mulf (mulf (l30 dstk gstk x) (l10 dstk gstk x)) (d0 dstk x))) (r1 dstk gstk x)
def l32 : FVec F S1x256 .f32 :=
  mulf (subf (subf (g32 dstk gstk x) (mulf (mulf (l30 dstk gstk x) (l20 dstk gstk x)) (d0 dstk x)))
    (mulf (mulf (l31 dstk gstk x) (l21 dstk gstk x)) (d1 dstk gstk x))) (r2 dstk gstk x)
def d3 : FVec F S1x256 .f32 :=
  subf (subf (subf (addf (g33 dstk gstk x) (rowC 0x322BCC77#32)) (mulf (mulf (l30 dstk gstk x) (l30 dstk gstk x)) (d0 dstk x)))
    (mulf (mulf (l31 dstk gstk x) (l31 dstk gstk x)) (d1 dstk gstk x)))
    (mulf (mulf (l32 dstk gstk x) (l32 dstk gstk x)) (d2 dstk gstk x))
def y3 : FVec F S1x256 .f32 :=
  subf (subf (subf (b3 dstk gstk x) (mulf (l30 dstk gstk x) (b0 dstk x))) (mulf (l31 dstk gstk x) (y1 dstk gstk x)))
    (mulf (l32 dstk gstk x) (y2 dstk gstk x))
def z3 : FVec F S1x256 .f32 := divf (y3 dstk gstk x) (d3 dstk gstk x)
def c32 : FVec F S1x256 .f32 := subf (z2 dstk gstk x) (mulf (l32 dstk gstk x) (z3 dstk gstk x))
def c31 : FVec F S1x256 .f32 :=
  subf (subf (z1 dstk gstk x) (mulf (l21 dstk gstk x) (c32 dstk gstk x))) (mulf (l31 dstk gstk x) (z3 dstk gstk x))
def c30 : FVec F S1x256 .f32 :=
  subf (subf (subf (z0 dstk x) (mulf (l10 dstk gstk x) (c31 dstk gstk x))) (mulf (l20 dstk gstk x) (c32 dstk gstk x)))
    (mulf (l30 dstk gstk x) (z3 dstk gstk x))

def bin0 : FVec F S1x256 .f32 := binOf (c30 dstk gstk x)
def bin1 : FVec F S1x256 .f32 := binOf (c31 dstk gstk x)
def bin2 : FVec F S1x256 .f32 := binOf (c32 dstk gstk x)
def bin3 : FVec F S1x256 .f32 := binOf (z3 dstk gstk x)

/-- A quantised coefficient times the whole atom. -/
def partOf (b : FVec F S1x256 .f32) (hot : IVec S1024x256 1) : FVec F S256x256 .f32 :=
  mulf (broadcastTo S256x256 (coefOf b) broadcasts_S1x256_S256x256) (addf (atomHi dstk hot) (atomLo dstk hot))

/-- The quantised reconstruction. -/
def recon : FVec F S256x256 .f32 :=
  addf (addf (addf (addf (broadcast S256x256 (Scalar.ofBits .f32 0x00000000#32))
      (partOf dstk (bin0 dstk gstk x) (hot0 dstk x))) (partOf dstk (bin1 dstk gstk x) (hot1 dstk gstk x)))
      (partOf dstk (bin2 dstk gstk x) (hot2 dstk gstk x))) (partOf dstk (bin3 dstk gstk x) (hot3 dstk gstk x))

/-- What the slab stores of the first result. -/
def slabZ : FVec F S256x256 .f32 := addf x (subf (recon dstk gstk x) x)

/-- The slab's tokens. -/
def slabTok : IVec S4x256 32 :=
  concatenate S4x256 0 [⟨S1x256, tokOf (sel0 dstk x) (bin0 dstk gstk x)⟩, ⟨S1x256, tokOf (sel1 dstk gstk x) (bin1 dstk gstk x)⟩,
    ⟨S1x256, tokOf (sel2 dstk gstk x) (bin2 dstk gstk x)⟩, ⟨S1x256, tokOf (sel3 dstk gstk x) (bin3 dstk gstk x)⟩]
    concatenates_S1x256_S1x256_S1x256_S1x256_S4x256_d0

/-- The slab's sum of squared errors. -/
def slabErr : F .f32 :=
  extractAt ![0, 0, 0] (shapeCast S1x1x1 (multiReduction .add [1, 2] S1 (shapeCast S1x256x256
    (mulf (subf (recon dstk gstk x) x) (subf (recon dstk gstk x) x)) shapeCasts_S256x256_S1x256x256) 0x00000000#32
    reduces_S1x256x256_S1 (.inl rfl) rfl) shapeCasts_S1_S1x1x1) inpos_S1x1x1_p0_0_0

end Stages

/-! ## The four slabs of a block -/

/-- The block's columns as a matrix. -/
def mat (x0 : Vec F S1x256x1024 .f32) : FVec F S256x1024 .f32 := shapeCast S256x1024 x0 shapeCasts_S1x256x1024_S256x1024
def xs0 (x0 : Vec F S1x256x1024 .f32) : FVec F S256x256 .f32 :=
  extractStridedSlice S256x256 ![0, 0] (mat x0) slices_S256x1024_o0_0_S256x256
def xs1 (x0 : Vec F S1x256x1024 .f32) : FVec F S256x256 .f32 :=
  extractStridedSlice S256x256 ![0, 256] (mat x0) slices_S256x1024_o0_256_S256x256
def xs2 (x0 : Vec F S1x256x1024 .f32) : FVec F S256x256 .f32 :=
  extractStridedSlice S256x256 ![0, 512] (mat x0) slices_S256x1024_o0_512_S256x256
def xs3 (x0 : Vec F S1x256x1024 .f32) : FVec F S256x256 .f32 :=
  extractStridedSlice S256x256 ![0, 768] (mat x0) slices_S256x1024_o0_768_S256x256

/-- The block's sum of squared errors. -/
def blockErr (x0 : Vec F S1x256x1024 .f32) (dstk : Vec F S512x1024 .bf16) (gstk : Vec F S2048x1024 .bf16) : F .f32 :=
  Scalar.addf (Scalar.addf (Scalar.addf (slabErr dstk gstk (xs0 x0)) (slabErr dstk gstk (xs1 x0)))
    (slabErr dstk gstk (xs2 x0))) (slabErr dstk gstk (xs3 x0))

/-- The running loss after a block: from zero at the first point, scaled at the last. -/
def lossStep (i : BitVec 32) (err : F .f32) (prev : Vec F S1x1 .f32) : FVec F S1x1 .f32 :=
  Scalar.select (Scalar.cmpi .eq i 7#32)
    (mulf (addf (Scalar.select (Scalar.cmpi .eq i 0#32) (broadcast S1x1 (Scalar.ofBits .f32 0x00000000#32))
        (shapeCast S1x1 prev shapeCasts_S1x1_S1x1)) (broadcast S1x1 err)) (broadcast S1x1 (Scalar.ofBits .f32 0x35200000#32)))
    (addf (Scalar.select (Scalar.cmpi .eq i 0#32) (broadcast S1x1 (Scalar.ofBits .f32 0x00000000#32))
        (shapeCast S1x1 prev shapeCasts_S1x1_S1x1)) (broadcast S1x1 err))

/-- The stores into the first result's block. -/
def piecesZ (x0 : Vec F S1x256x1024 .f32) (dstk : Vec F S512x1024 .bf16) (gstk : Vec F S2048x1024 .bf16) :
    List (View.Piece (Elt F) S1x256x1024 .f32) :=
  [⟨Rect.unit (s := S1x256x1024) ![0, 0, 768] S1x256x256.size inb_S1x256x1024_S1x256x256_0_0_768, shapeCast S1x256x256 (slabZ dstk gstk (xs3 x0)) shapeCasts_S256x256_S1x256x256⟩,
   ⟨Rect.unit (s := S1x256x1024) ![0, 0, 512] S1x256x256.size inb_S1x256x1024_S1x256x256_0_0_512, shapeCast S1x256x256 (slabZ dstk gstk (xs2 x0)) shapeCasts_S256x256_S1x256x256⟩,
   ⟨Rect.unit (s := S1x256x1024) ![0, 0, 256] S1x256x256.size inb_S1x256x1024_S1x256x256_0_0_256, shapeCast S1x256x256 (slabZ dstk gstk (xs1 x0)) shapeCasts_S256x256_S1x256x256⟩,
   ⟨Rect.unit (s := S1x256x1024) ![0, 0, 0] S1x256x256.size inb_S1x256x1024_S1x256x256_0_0_0, shapeCast S1x256x256 (slabZ dstk gstk (xs0 x0)) shapeCasts_S256x256_S1x256x256⟩]

/-- The stores into the tokens' block. -/
def piecesTok (x0 : Vec F S1x256x1024 .f32) (dstk : Vec F S512x1024 .bf16) (gstk : Vec F S2048x1024 .bf16) :
    List (View.Piece (Elt F) S4x1024 .i32) :=
  [⟨Rect.unit (s := S4x1024) ![0, 768] S4x256.size inb_S4x1024_S4x256_0_768, slabTok dstk gstk (xs3 x0)⟩,
   ⟨Rect.unit (s := S4x1024) ![0, 512] S4x256.size inb_S4x1024_S4x256_0_512, slabTok dstk gstk (xs2 x0)⟩,
   ⟨Rect.unit (s := S4x1024) ![0, 256] S4x256.size inb_S4x1024_S4x256_0_256, slabTok dstk gstk (xs1 x0)⟩,
   ⟨Rect.unit (s := S4x1024) ![0, 0] S4x256.size inb_S4x1024_S4x256_0_0, slabTok dstk gstk (xs0 x0)⟩]

/-- The store into the loss. -/
def piecesLoss (i : BitVec 32) (x0 : Vec F S1x256x1024 .f32) (dstk : Vec F S512x1024 .bf16) (gstk : Vec F S2048x1024 .bf16)
    (prev : Vec F S1x1 .f32) : List (View.Piece (Elt F) S1x1 .f32) :=
  [⟨Rect.unit (s := S1x1) ![0, 0] S1x1.size inb_S1x1_S1x1_0_0, lossStep i (blockErr x0 dstk gstk) prev⟩]

/-- The stores that fill the dictionary table. -/
def piecesDict (x1 : Vec F S256x1024 .f32) : List (View.Piece (Elt F) S512x1024 .bf16) :=
  [⟨Rect.unit (s := S512x1024) ![256, 0] S256x1024.size inb_S512x1024_S256x1024_256_0, k0_pay4 x1⟩,
   ⟨Rect.unit (s := S512x1024) ![0, 0] S256x1024.size inb_S512x1024_S256x1024_0_0, k0_pay3 x1⟩]

/-- The stores that fill the Gram table. -/
def piecesGram (x1 : Vec F S256x1024 .f32) : List (View.Piece (Elt F) S2048x1024 .bf16) :=
  [⟨Rect.unit (s := S2048x1024) ![1024, 0] S1024x1024.size inb_S2048x1024_S1024x1024_1024_0, k0_pay8 x1⟩,
   ⟨Rect.unit (s := S2048x1024) ![0, 0] S1024x1024.size inb_S2048x1024_S1024x1024_0_0, k0_pay7 x1⟩]

end Cert.KernelIdeal.Hand

end
-- ==== Proof.RunA.lean ====
module

public import proofs.«01_k».proof.Proof.Setup
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1476000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole) (hc0 : cond0_0 i)
    (x0 : Vec F S1x256x1024 .f32) (x1 : Vec F S256x1024 .f32) (xo4 : Vec F S1x1 .f32) :
    Σ' (L2 : List (View.Piece (Elt F) S1x256x1024 .f32)), Σ' (L3 : List (View.Piece (Elt F) S4x1024 .i32)), Σ' (L4 : List (View.Piece (Elt F) S1x1 .f32)), Σ' (LS0 : List (View.Piece (Elt F) S512x1024 .bf16)), { LS1 : List (View.Piece (Elt F) S2048x1024 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__omp_body i arg1 harg1 arg2 harg2 arg3 harg3 arg4 harg4 arg5 harg5 arg6 harg6 arg7 harg7) K } := by
  refine ⟨?_, ?_, ?_, ?_, ?_, fun E K => ?run⟩
  case run =>
    simp only [cc0__omp_body_eq_skeleton]; unfold cc0__omp_body_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.RunB.lean ====
module

public import proofs.«01_k».proof.Proof.RunA
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1412000 in
/-- What the body's stores leave in each output's staging memref, as pieces (last first) IN CASE B (`scf.if` 0 not taken: points 1, 2, … 7: 7 of 8), WITH the
    proof that on whole staging memrefs — the inputs' at their contents, the outputs it reads before covering (4) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole) (hc0 : ¬cond0_0 i)
    (x0 : Vec F S1x256x1024 .f32) (x1 : Vec F S256x1024 .f32) (xo4 : Vec F S1x1 .f32) (xs0 : Vec F S512x1024 .bf16) (xs1 : Vec F S2048x1024 .bf16) :
    Σ' (L2 : List (View.Piece (Elt F) S1x256x1024 .f32)), Σ' (L3 : List (View.Piece (Elt F) S4x1024 .i32)), Σ' (L4 : List (View.Piece (Elt F) S1x1 .f32)), Σ' (LS0 : List (View.Piece (Elt F) S512x1024 .bf16)), { LS1 : List (View.Piece (Elt F) S2048x1024 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ owns (c : Thread nD τ) arg6 fullShare xs0 ∗ owns (c : Thread nD τ) arg7 fullShare xs1) -∗ K ⟨⟩))
          ⊢ wp frame (wpE (defs₀ (F := F)) Variants.none c none) E (cc0__omp_body i arg1 harg1 arg2 harg2 arg3 harg3 arg4 harg4 arg5 harg5 arg6 harg6 arg7 harg7) K } := by
  refine ⟨?_, ?_, ?_, [], [], fun E K => ?run⟩
  case run =>
    simp only [cc0__omp_body_eq_skeleton]; unfold cc0__omp_body_skel
    simp only [k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg5.eq_unread hf4; obtain rfl := harg6.eq_unread hfs0; obtain rfl := harg7.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]
    · iexists _; isplitr; · ipureintro; exact harg6.read_unread _
      iexact HS0
    iexists _; isplitr; · ipureintro; exact harg7.read_unread _
    iexact HS1

end Cert.KernelIdeal.Hand

end
-- ==== Proof.Pieces.lean ====
module

public import proofs.«01_k».proof.Proof.Slab
public import proofs.«01_k».proof.Proof.RunB
public import Idealize.ShloMosaic.Lib.Pipeline.Value

@[expose] public section

set_option maxRecDepth 65536

noncomputable section

/-! # What the runs store, in the slab's own terms

The pieces that the two runs found are the slabs' values; with that, both runs are stated with what every buffer holds
after the body. -/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Loading a whole memref gives its contents back. -/
theorem readAll {s : Shape} {t : EltTy} (a : Memref sig .tc .vmem s t) (h : a.IsWhole) (X : Vec F s t)
    {off : Fin s.rank → ℕ} (ho : off = fun _ => 0) (inb : ∀ d, off d + s.size d ≤ s.size d) :
    View.readAt (Elt F) a.view (Rect.unit (s := s) off s.size inb).toLoadRect (h.unread X) = X := by
  rw [View.readAt_eq_ld, h.read_unread]; exact View.ld_unit_zero ho inb X

/-- Loading a whole memref that was filled piece by piece gives the pieces' contents. -/
theorem readFilled {s : Shape} {t : EltTy} (a : Memref sig .tc .vmem s t) (L : List (View.Piece (Elt F) s t))
    {off : Fin s.rank → ℕ} (ho : off = fun _ => 0) (inb : ∀ d, off d + s.size d ≤ s.size d) :
    a.view.readCov L (Rect.unit (s := s) off s.size inb).toLoadRect = View.canon L := by
  rw [View.readCov_eq_canon']; exact View.ld_unit_zero ho inb (View.canon L)

theorem off2 : (![0, 0] : Fin 2 → ℕ) = fun _ => 0 := by funext a; fin_cases a <;> rfl
theorem off3 : (![0, 0, 0] : Fin 3 → ℕ) = fun _ => 0 := by funext a; fin_cases a <;> rfl

/-- The dictionary table after the first point. -/
def dictTab (x1 : Vec F S256x1024 .f32) : Vec F S512x1024 .bf16 := View.canon (piecesDict x1)
/-- The Gram table after the first point. -/
def gramTab (x1 : Vec F S256x1024 .f32) : Vec F S2048x1024 .bf16 := View.canon (piecesGram x1)
/-- What a point leaves in the first result's block, -/
def zBlk (x0 : Vec F S1x256x1024 .f32) (s0 : Vec F S512x1024 .bf16) (s1 : Vec F S2048x1024 .bf16) : Vec F S1x256x1024 .f32 :=
  View.canon (piecesZ x0 s0 s1)
/-- and in the tokens' block. -/
def tokBlk (x0 : Vec F S1x256x1024 .f32) (s0 : Vec F S512x1024 .bf16) (s1 : Vec F S2048x1024 .bf16) : Vec F S4x1024 .i32 :=
  View.canon (piecesTok x0 s0 s1)
/-- The first result's pieces cover its block. -/
theorem coverZ (x0 : Vec F S1x256x1024 .f32) (s0 : Vec F S512x1024 .bf16) (s1 : Vec F S2048x1024 .bf16) (y : S1x256x1024.Idx) :
    ∃ pc ∈ piecesZ x0 s0 s1, y ∈ pc.1.set := View.cover_of_tiledL (piecesZ x0 s0 s1) S1x256x256.size (by sl_kernel_rfl) y
/-- The tokens' pieces cover their block. -/
theorem coverTok (x0 : Vec F S1x256x1024 .f32) (s0 : Vec F S512x1024 .bf16) (s1 : Vec F S2048x1024 .bf16) (y : S4x1024.Idx) :
    ∃ pc ∈ piecesTok x0 s0 s1, y ∈ pc.1.set := View.cover_of_tiledL (piecesTok x0 s0 s1) S4x256.size (by sl_kernel_rfl) y
/-- The loss is stored whole. -/
theorem coverLoss (i : BitVec 32) (x0 : Vec F S1x256x1024 .f32) (s0 : Vec F S512x1024 .bf16) (s1 : Vec F S2048x1024 .bf16)
    (p : Vec F S1x1 .f32) (y : S1x1.Idx) : ∃ pc ∈ piecesLoss i x0 s0 s1 p, y ∈ pc.1.set :=
  View.cover_of_tiledL (piecesLoss i x0 s0 s1 p) S1x1.size (by sl_kernel_rfl) y
/-- The dictionary table is filled whole. -/
theorem coverDict (x1 : Vec F S256x1024 .f32) (y : S512x1024.Idx) : ∃ pc ∈ piecesDict x1, y ∈ pc.1.set :=
  View.cover_of_tiledL (piecesDict x1) S256x1024.size (by sl_kernel_rfl) y
/-- The Gram table is filled whole. -/
theorem coverGram (x1 : Vec F S256x1024 .f32) (y : S2048x1024.Idx) : ∃ pc ∈ piecesGram x1, y ∈ pc.1.set :=
  View.cover_of_tiledL (piecesGram x1) S1024x1024.size (by sl_kernel_rfl) y

/-- The loss' contents are the one store's. -/
theorem canonLoss (i : BitVec 32) (x0 : Vec F S1x256x1024 .f32) (s0 : Vec F S512x1024 .bf16) (s1 : Vec F S2048x1024 .bf16)
    (p : Vec F S1x1 .f32) : View.canon (piecesLoss i x0 s0 s1 p) = lossStep i (blockErr x0 s0 s1) p := by
  have h := readFilled (F := F) (Memref.whole cc0_stg4_0 : Memref sig .tc .vmem S1x1 .f32) (piecesLoss i x0 s0 s1 p) off2 inb_S1x1_S1x1_0_0
  rw [← h]; exact View.readCov_cons_toLoadRect _ _ _ _

/-- At the first point the loss starts from zero, whatever the buffer held. -/
theorem lossStep_zero (e : F .f32) (p q : Vec F S1x1 .f32) : lossStep 0#32 e p = lossStep 0#32 e q := rfl

theorem runB_Z (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : ¬cond0_0 i)
    (x0 : Vec F S1x256x1024 .f32) (x1 : Vec F S256x1024 .f32) (xo4 : Vec F S1x1 .f32) (s0 : Vec F S512x1024 .bf16) (s1 : Vec F S2048x1024 .bf16) :
    (kernelRun0_B c i arg1 harg1 arg2 harg2 arg3 harg3 arg4 harg4 arg5 harg5 arg6 harg6 arg7 harg7 hc0 x0 x1 xo4 s0 s1).1 = piecesZ (View.readAt (Elt F) arg1.view (Rect.unit (s := S1x256x1024) ![0, 0, 0] S1x256x1024.size inb_S1x256x1024_S1x256x1024_0_0_0).toLoadRect (harg1.unread x0)) (View.readAt (Elt F) arg6.view (Rect.unit (s := S512x1024) ![0, 0] S512x1024.size inb_S512x1024_S512x1024_0_0).toLoadRect (harg6.unread s0)) (View.readAt (Elt F) arg7.view (Rect.unit (s := S2048x1024) ![0, 0] S2048x1024.size inb_S2048x1024_S2048x1024_0_0).toLoadRect (harg7.unread s1)) := by
  sl_kernel_rfl

theorem runB_Tok (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : ¬cond0_0 i)
    (x0 : Vec F S1x256x1024 .f32) (x1 : Vec F S256x1024 .f32) (xo4 : Vec F S1x1 .f32) (s0 : Vec F S512x1024 .bf16) (s1 : Vec F S2048x1024 .bf16) :
    (kernelRun0_B c i arg1 harg1 arg2 harg2 arg3 harg3 arg4 harg4 arg5 harg5 arg6 harg6 arg7 harg7 hc0 x0 x1 xo4 s0 s1).2.1 = piecesTok (View.readAt (Elt F) arg1.view (Rect.unit (s := S1x256x1024) ![0, 0, 0] S1x256x1024.size inb_S1x256x1024_S1x256x1024_0_0_0).toLoadRect (harg1.unread x0)) (View.readAt (Elt F) arg6.view (Rect.unit (s := S512x1024) ![0, 0] S512x1024.size inb_S512x1024_S512x1024_0_0).toLoadRect (harg6.unread s0)) (View.readAt (Elt F) arg7.view (Rect.unit (s := S2048x1024) ![0, 0] S2048x1024.size inb_S2048x1024_S2048x1024_0_0).toLoadRect (harg7.unread s1)) := by
  sl_kernel_rfl

theorem runB_Loss (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : ¬cond0_0 i)
    (x0 : Vec F S1x256x1024 .f32) (x1 : Vec F S256x1024 .f32) (xo4 : Vec F S1x1 .f32) (s0 : Vec F S512x1024 .bf16) (s1 : Vec F S2048x1024 .bf16) :
    (kernelRun0_B c i arg1 harg1 arg2 harg2 arg3 harg3 arg4 harg4 arg5 harg5 arg6 harg6 arg7 harg7 hc0 x0 x1 xo4 s0 s1).2.2.1 = piecesLoss (BitVec.ofNat 32 (i 0).val) (View.readAt (Elt F) arg1.view (Rect.unit (s := S1x256x1024) ![0, 0, 0] S1x256x1024.size inb_S1x256x1024_S1x256x1024_0_0_0).toLoadRect (harg1.unread x0)) (View.readAt (Elt F) arg6.view (Rect.unit (s := S512x1024) ![0, 0] S512x1024.size inb_S512x1024_S512x1024_0_0).toLoadRect (harg6.unread s0)) (View.readAt (Elt F) arg7.view (Rect.unit (s := S2048x1024) ![0, 0] S2048x1024.size inb_S2048x1024_S2048x1024_0_0).toLoadRect (harg7.unread s1)) (View.readAt (Elt F) arg5.view (Rect.unit (s := S1x1) ![0, 0] S1x1.size inb_S1x1_S1x1_0_0).toLoadRect (harg5.unread xo4)) := by
  sl_kernel_rfl

theorem runA_Z (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : cond0_0 i)
    (x0 : Vec F S1x256x1024 .f32) (x1 : Vec F S256x1024 .f32) (xo4 : Vec F S1x1 .f32) :
    (kernelRun0_A c i arg1 harg1 arg2 harg2 arg3 harg3 arg4 harg4 arg5 harg5 arg6 harg6 arg7 harg7 hc0 x0 x1 xo4).1 = piecesZ (View.readAt (Elt F) arg1.view (Rect.unit (s := S1x256x1024) ![0, 0, 0] S1x256x1024.size inb_S1x256x1024_S1x256x1024_0_0_0).toLoadRect (harg1.unread x0)) (arg6.view.readCov (piecesDict (View.readAt (Elt F) arg2.view (Rect.unit (s := S256x1024) ![0, 0] S256x1024.size inb_S256x1024_S256x1024_0_0).toLoadRect (harg2.unread x1))) (Rect.unit (s := S512x1024) ![0, 0] S512x1024.size inb_S512x1024_S512x1024_0_0).toLoadRect) (arg7.view.readCov (piecesGram (View.readAt (Elt F) arg2.view (Rect.unit (s := S256x1024) ![0, 0] S256x1024.size inb_S256x1024_S256x1024_0_0).toLoadRect (harg2.unread x1))) (Rect.unit (s := S2048x1024) ![0, 0] S2048x1024.size inb_S2048x1024_S2048x1024_0_0).toLoadRect) := by
  sl_kernel_rfl

theorem runA_Tok (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : cond0_0 i)
    (x0 : Vec F S1x256x1024 .f32) (x1 : Vec F S256x1024 .f32) (xo4 : Vec F S1x1 .f32) :
    (kernelRun0_A c i arg1 harg1 arg2 harg2 arg3 harg3 arg4 harg4 arg5 harg5 arg6 harg6 arg7 harg7 hc0 x0 x1 xo4).2.1 = piecesTok (View.readAt (Elt F) arg1.view (Rect.unit (s := S1x256x1024) ![0, 0, 0] S1x256x1024.size inb_S1x256x1024_S1x256x1024_0_0_0).toLoadRect (harg1.unread x0)) (arg6.view.readCov (piecesDict (View.readAt (Elt F) arg2.view (Rect.unit (s := S256x1024) ![0, 0] S256x1024.size inb_S256x1024_S256x1024_0_0).toLoadRect (harg2.unread x1))) (Rect.unit (s := S512x1024) ![0, 0] S512x1024.size inb_S512x1024_S512x1024_0_0).toLoadRect) (arg7.view.readCov (piecesGram (View.readAt (Elt F) arg2.view (Rect.unit (s := S256x1024) ![0, 0] S256x1024.size inb_S256x1024_S256x1024_0_0).toLoadRect (harg2.unread x1))) (Rect.unit (s := S2048x1024) ![0, 0] S2048x1024.size inb_S2048x1024_S2048x1024_0_0).toLoadRect) := by
  sl_kernel_rfl

theorem runA_Loss (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : cond0_0 i)
    (x0 : Vec F S1x256x1024 .f32) (x1 : Vec F S256x1024 .f32) (xo4 : Vec F S1x1 .f32) :
    (kernelRun0_A c i arg1 harg1 arg2 harg2 arg3 harg3 arg4 harg4 arg5 harg5 arg6 harg6 arg7 harg7 hc0 x0 x1 xo4).2.2.1 = piecesLoss (BitVec.ofNat 32 (i 0).val) (View.readAt (Elt F) arg1.view (Rect.unit (s := S1x256x1024) ![0, 0, 0] S1x256x1024.size inb_S1x256x1024_S1x256x1024_0_0_0).toLoadRect (harg1.unread x0)) (arg6.view.readCov (piecesDict (View.readAt (Elt F) arg2.view (Rect.unit (s := S256x1024) ![0, 0] S256x1024.size inb_S256x1024_S256x1024_0_0).toLoadRect (harg2.unread x1))) (Rect.unit (s := S512x1024) ![0, 0] S512x1024.size inb_S512x1024_S512x1024_0_0).toLoadRect) (arg7.view.readCov (piecesGram (View.readAt (Elt F) arg2.view (Rect.unit (s := S256x1024) ![0, 0] S256x1024.size inb_S256x1024_S256x1024_0_0).toLoadRect (harg2.unread x1))) (Rect.unit (s := S2048x1024) ![0, 0] S2048x1024.size inb_S2048x1024_S2048x1024_0_0).toLoadRect) (View.readAt (Elt F) arg5.view (Rect.unit (s := S1x1) ![0, 0] S1x1.size inb_S1x1_S1x1_0_0).toLoadRect (harg5.unread xo4)) := by
  sl_kernel_rfl

theorem runA_Dict (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : cond0_0 i)
    (x0 : Vec F S1x256x1024 .f32) (x1 : Vec F S256x1024 .f32) (xo4 : Vec F S1x1 .f32) :
    (kernelRun0_A c i arg1 harg1 arg2 harg2 arg3 harg3 arg4 harg4 arg5 harg5 arg6 harg6 arg7 harg7 hc0 x0 x1 xo4).2.2.2.1 = piecesDict (View.readAt (Elt F) arg2.view (Rect.unit (s := S256x1024) ![0, 0] S256x1024.size inb_S256x1024_S256x1024_0_0).toLoadRect (harg2.unread x1)) := by
  sl_kernel_rfl

theorem runA_Gram (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : cond0_0 i)
    (x0 : Vec F S1x256x1024 .f32) (x1 : Vec F S256x1024 .f32) (xo4 : Vec F S1x1 .f32) :
    (kernelRun0_A c i arg1 harg1 arg2 harg2 arg3 harg3 arg4 harg4 arg5 harg5 arg6 harg6 arg7 harg7 hc0 x0 x1 xo4).2.2.2.2.1 = piecesGram (View.readAt (Elt F) arg2.view (Rect.unit (s := S256x1024) ![0, 0] S256x1024.size inb_S256x1024_S256x1024_0_0).toLoadRect (harg2.unread x1)) := by
  sl_kernel_rfl

/-- The body at a later point, with what every buffer holds after it. -/
theorem bodyB (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : ¬cond0_0 i)
    (x0 : Vec F S1x256x1024 .f32) (x1 : Vec F S256x1024 .f32) (xo4 : Vec F S1x1 .f32) (s0 : Vec F S512x1024 .bf16) (s1 : Vec F S2048x1024 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4 ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (zBlk x0 s0 s1) ∗ owns (c : Thread nD τ) arg4 fullShare (tokBlk x0 s0 s1) ∗ owns (c : Thread nD τ) arg5 fullShare (lossStep (BitVec.ofNat 32 (i 0).val) (blockErr x0 s0 s1) xo4) ∗ owns (c : Thread nD τ) arg6 fullShare s0 ∗ owns (c : Thread nD τ) arg7 fullShare s1) -∗ K ⟨⟩))
      ⊢ wp frame (wpE (defs₀ (F := F)) Variants.none c none) E (cc0__omp_body i arg1 harg1 arg2 harg2 arg3 harg3 arg4 harg4 arg5 harg5 arg6 harg6 arg7 harg7) K := by
  have hZ := runB_Z c i arg1 harg1 arg2 harg2 arg3 harg3 arg4 harg4 arg5 harg5 arg6 harg6 arg7 harg7 hc0 x0 x1 xo4 s0 s1
  have hT := runB_Tok c i arg1 harg1 arg2 harg2 arg3 harg3 arg4 harg4 arg5 harg5 arg6 harg6 arg7 harg7 hc0 x0 x1 xo4 s0 s1
  have hL := runB_Loss c i arg1 harg1 arg2 harg2 arg3 harg3 arg4 harg4 arg5 harg5 arg6 harg6 arg7 harg7 hc0 x0 x1 xo4 s0 s1
  generalize kernelRun0_B c i arg1 harg1 arg2 harg2 arg3 harg3 arg4 harg4 arg5 harg5 arg6 harg6 arg7 harg7 hc0 x0 x1 xo4 s0 s1 = R at hZ hT hL
  obtain ⟨L2, L3, L4, LS0, LS1, h⟩ := R
  dsimp only at hZ hT hL
  rw [readAll arg1 harg1 x0 off3, readAll arg6 harg6 s0 off2, readAll arg7 harg7 s1 off2] at hZ hT hL
  rw [readAll arg5 harg5 xo4 off2] at hL
  subst hZ hT hL
  iintro ⟨H0, H1, H2, H3, H4, HS0, HS1, Hk⟩
  iapply (h E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, ⟨%e2, H2⟩, ⟨%e3, H3⟩, ⟨%e4, H4⟩, HS0, HS1⟩
  iapply Hk
  isplitl [H0]; · iexact H0
  isplitl [H1]; · iexact H1
  isplitl [H2]
  · unfold owns; iexists _; isplitr
    swap; · iexact H2
    ipureintro; exact View.read_writes_eq_canon _ _ _ (coverZ x0 s0 s1)
  isplitl [H3]
  · unfold owns; iexists _; isplitr
    swap; · iexact H3
    ipureintro; exact View.read_writes_eq_canon _ _ _ (coverTok x0 s0 s1)
  isplitl [H4]
  · unfold owns; iexists _; isplitr
    swap; · iexact H4
    ipureintro; exact (View.read_writes_eq_canon _ _ _ (coverLoss _ x0 s0 s1 xo4)).trans (canonLoss _ x0 s0 s1 xo4)
  isplitl [HS0]; · iexact HS0
  iexact HS1

/-- The body at a first point, with what every buffer holds after it. -/
theorem bodyA (c : Dev nD) (i : grid0.Coords) (arg1 : Memref sig .tc .vmem S1x256x1024 .f32) (harg1 : arg1.IsWhole) (arg2 : Memref sig .tc .vmem S256x1024 .f32) (harg2 : arg2.IsWhole) (arg3 : Memref sig .tc .vmem S1x256x1024 .f32) (harg3 : arg3.IsWhole) (arg4 : Memref sig .tc .vmem S4x1024 .i32) (harg4 : arg4.IsWhole) (arg5 : Memref sig .tc .vmem S1x1 .f32) (harg5 : arg5.IsWhole) (arg6 : Memref sig .tc .vmem S512x1024 .bf16) (harg6 : arg6.IsWhole) (arg7 : Memref sig .tc .vmem S2048x1024 .bf16) (harg7 : arg7.IsWhole)
    (hc0 : cond0_0 i)
    (x0 : Vec F S1x256x1024 .f32) (x1 : Vec F S256x1024 .f32) (xo4 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (zBlk x0 (dictTab x1) (gramTab x1)) ∗ owns (c : Thread nD τ) arg4 fullShare (tokBlk x0 (dictTab x1) (gramTab x1)) ∗ owns (c : Thread nD τ) arg5 fullShare (lossStep (BitVec.ofNat 32 (i 0).val) (blockErr x0 (dictTab x1) (gramTab x1)) xo4) ∗ owns (c : Thread nD τ) arg6 fullShare (dictTab x1) ∗ owns (c : Thread nD τ) arg7 fullShare (gramTab x1)) -∗ K ⟨⟩))
      ⊢ wp frame (wpE (defs₀ (F := F)) Variants.none c none) E (cc0__omp_body i arg1 harg1 arg2 harg2 arg3 harg3 arg4 harg4 arg5 harg5 arg6 harg6 arg7 harg7) K := by
  have hZ := runA_Z c i arg1 harg1 arg2 harg2 arg3 harg3 arg4 harg4 arg5 harg5 arg6 harg6 arg7 harg7 hc0 x0 x1 xo4
  have hT := runA_Tok c i arg1 harg1 arg2 harg2 arg3 harg3 arg4 harg4 arg5 harg5 arg6 harg6 arg7 harg7 hc0 x0 x1 xo4
  have hL := runA_Loss c i arg1 harg1 arg2 harg2 arg3 harg3 arg4 harg4 arg5 harg5 arg6 harg6 arg7 harg7 hc0 x0 x1 xo4
  have hD := runA_Dict c i arg1 harg1 arg2 harg2 arg3 harg3 arg4 harg4 arg5 harg5 arg6 harg6 arg7 harg7 hc0 x0 x1 xo4
  have hG := runA_Gram c i arg1 harg1 arg2 harg2 arg3 harg3 arg4 harg4 arg5 harg5 arg6 harg6 arg7 harg7 hc0 x0 x1 xo4
  revert hZ hT hL hD hG
  generalize kernelRun0_A c i arg1 harg1 arg2 harg2 arg3 harg3 arg4 harg4 arg5 harg5 arg6 harg6 arg7 harg7 hc0 x0 x1 xo4 = R
  intro hZ hT hL hD hG
  obtain ⟨L2, L3, L4, LS0, LS1, h⟩ := R
  dsimp only at hZ hT hL hD hG
  rw [readAll arg2 harg2 x1 off2] at hZ hT hL hD hG
  rw [readAll arg1 harg1 x0 off3, readFilled arg6 (piecesDict x1) off2, readFilled arg7 (piecesGram x1) off2] at hZ hT hL
  rw [readAll arg5 harg5 xo4 off2] at hL
  subst hZ hT hL hD hG
  iintro ⟨H0, H1, H2, H3, H4, HS0, HS1, Hk⟩
  iapply (h E K)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, ⟨%e2, H2⟩, ⟨%e3, H3⟩, ⟨%e4, H4⟩, ⟨%es0, HS0⟩, ⟨%es1, HS1⟩⟩
  iapply Hk
  isplitl [H0]; · iexact H0
  isplitl [H1]; · iexact H1
  isplitl [H2]
  · unfold owns; iexists _; isplitr
    swap; · iexact H2
    ipureintro; exact View.read_writes_eq_canon _ _ _ (coverZ x0 (dictTab x1) (gramTab x1))
  isplitl [H3]
  · unfold owns; iexists _; isplitr
    swap; · iexact H3
    ipureintro; exact View.read_writes_eq_canon _ _ _ (coverTok x0 (dictTab x1) (gramTab x1))
  isplitl [H4]
  · unfold owns; iexists _; isplitr
    swap; · iexact H4
    ipureintro; exact (View.read_writes_eq_canon _ _ _ (coverLoss _ x0 (dictTab x1) (gramTab x1) xo4)).trans (canonLoss _ x0 (dictTab x1) (gramTab x1) xo4)
  isplitl [HS0]
  · unfold owns; iexists _; isplitr
    swap; · iexact HS0
    ipureintro; exact View.read_writes_eq_canon _ _ _ (coverDict x1)
  unfold owns; iexists _; isplitr
  swap; · iexact HS1
  ipureintro; exact View.read_writes_eq_canon _ _ _ (coverGram x1)

end Cert.KernelIdeal.Hand

end
-- ==== Proof.Frame.lean ====
module

public import proofs.«01_k».proof.Proof.Pieces
public import Idealize.ShloMosaic.Lib.Claim

@[expose] public section

set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run, with every buffer's contents in closed form

The two tables are functions of the dictionary alone, filled at the first point; each point's blocks are functions of its
block of signals and of the tables; the loss is a recursion over the points. -/

/-- The first point. -/
def pt0 : Fin cfg0.N := ⟨0, lt_of_lt_of_eq (by decide : 0 < 8) N_0.symm⟩
/-- The dictionary, as every point's second block. -/
def dictBlk (c : Dev nD) : Vec F S256x1024 .f32 := iblk m c 1 pt0
/-- The second block is the whole dictionary at every point. -/
theorem iblk1_eq (c : Dev nD) (t : Fin cfg0.N) : (iblk m c 1 t : Vec F S256x1024 .f32) = dictBlk m c := rfl

/-- The squared error of a point's block. -/
def errAt (c : Dev nD) (t : Fin cfg0.N) : F .f32 := blockErr (iblk m c 0 t) (dictTab (dictBlk m c)) (gramTab (dictBlk m c))
/-- The loss' buffer after each point. -/
def lossAt (c : Dev nD) : (n : ℕ) → n < cfg0.N → Vec F S1x1 .f32
  | 0, h => lossStep 0#32 (errAt m c ⟨0, h⟩) (fun _ => errAt m c ⟨0, h⟩)
  | n + 1, h => lossStep (BitVec.ofNat 32 (n + 1)) (errAt m c ⟨n + 1, h⟩) (lossAt c n (Nat.lt_of_succ_lt h))

/-- The grid has one axis, so a point's coordinate is its number. -/
theorem coord0 (t : Fin cfg0.N) : (grid0.coords t 0).val = t.val := by
  have e0 : (grid0.coords t 0).val = t.val / 1 % 8 := Pipeline.Grid.coords_val t 0 (by decide) rfl
  have ht : t.val < 8 := Nat.lt_of_lt_of_eq t.isLt N_0
  omega

theorem lossAt_first (c : Dev nD) (t : Fin cfg0.N) (hz : t.val = 0) (p : Vec F S1x1 .f32) :
    lossStep (BitVec.ofNat 32 (grid0.coords t 0).val) (errAt m c t) p = lossAt m c t.val t.isLt := by
  obtain ⟨n, hn⟩ := t
  rw [coord0]; dsimp only at hz ⊢; subst hz; exact lossStep_zero _ _ _
theorem lossAt_later (c : Dev nD) (t : Fin cfg0.N) (hz : t.val ≠ 0) :
    lossStep (BitVec.ofNat 32 (grid0.coords t 0).val) (errAt m c t)
      (lossAt m c (t.val - 1) (Nat.lt_of_le_of_lt (Nat.sub_le _ _) t.isLt)) = lossAt m c t.val t.isLt := by
  obtain ⟨n, hn⟩ := t
  rw [coord0]; cases n with
  | zero => exact absurd rfl hz
  | succ n => rfl

/-- What holds between points: before the first the buffers that carry the tables hold anything, afterwards the tables. -/
def PhiS (c : Dev nD) : (n : ℕ) → sProp 𝕄
  | 0 => Pipeline.ΦA spec0 c
  | _ + 1 => iprop(iprop(owns (c : Thread nD τ) scM0_0 fullShare (dictTab (dictBlk m c)) ∗ owns (c : Thread nD τ) scM0_1 fullShare (gramTab (dictBlk m c))) ∗ (∃ r, prngReg c r))
theorem PhiS_zero (c : Dev nD) (n : ℕ) (hz : n = 0) : PhiS m c n = Pipeline.ΦA spec0 c := by subst hz; rfl
theorem PhiS_pos (c : Dev nD) (n : ℕ) (hz : n ≠ 0) :
    PhiS m c n = iprop(iprop(owns (c : Thread nD τ) scM0_0 fullShare (dictTab (dictBlk m c)) ∗ owns (c : Thread nD τ) scM0_1 fullShare (gramTab (dictBlk m c))) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => zBlk (iblk m c 0 t) (dictTab (dictBlk m c)) (gramTab (dictBlk m c))
    | ⟨3, _⟩ => tokBlk (iblk m c 0 t) (dictTab (dictBlk m c)) (gramTab (dictBlk m c))
    | ⟨4, _⟩ => lossAt m c t.val t.isLt
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = zBlk (iblk m c 0 t) (dictTab (dictBlk m c)) (gramTab (dictBlk m c)) := by dsimp only [dats]
theorem after0_3 (c : Dev nD) (t : Fin cfg0.N) :
    (dats m 0 c).after 3 t = tokBlk (iblk m c 0 t) (dictTab (dictBlk m c)) (gramTab (dictBlk m c)) := by dsimp only [dats]
theorem after0_4 (c : Dev nD) (t : Fin cfg0.N) : (dats m 0 c).after 4 t = lossAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- After the first point the loss' buffer still holds what the point before left: it is written back at the end only. -/
theorem before0_4 (c : Dev nD) (t : Fin cfg0.N) (hz : t.val ≠ 0) (d) :
    (dats m 0 c).before 4 t d = lossAt m c (t.val - 1) (Nat.lt_of_le_of_lt (Nat.sub_le _ _) t.isLt) := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the first fills the tables, a later one finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_3, after0_4]
  rw [show (dats m 0 c).Φ t.succ = PhiS m c (t.val + 1) from rfl, PhiS_pos m c _ (Nat.succ_ne_zero _),
    show (dats m 0 c).Φ t.castSucc = PhiS m c t.val from rfl]
  have hN : t.val < 8 := lt_of_lt_of_eq t.isLt (show cfg0.N = 8 from N_0)
  by_cases hz : t.val = 0
  · rw [PhiS_zero m c _ hz, PhiA0_eq]
    have hl := lossAt_first m c t hz
    iintro ⟨⟨⟨HS0, HS1⟩, Hg⟩, Ho, ⟨%d0, H0⟩, ⟨%d1, H1⟩, ⟨%d2, H2⟩, ⟨%d3, H3⟩, ⟨%d4, H4⟩⟩
    iapply (bodyA c (grid0.coords t) _ _ _ _ _ _ _ _ _ _ _ _ _ _ ((hcond0_0 t).mpr (by omega)) (iblk m c 0 t) (iblk m c 1 t) _ Set.univ _)
    isplitl [H0]; · iexact H0
    isplitl [H1]; · iexact H1
    isplitl [H2]; · iexists _; iexact H2
    isplitl [H3]; · iexists _; iexact H3
    isplitl [H4]; · iexact H4
    isplitl [HS0]; · iexact HS0
    isplitl [HS1]; · iexact HS1
    rw [show blockErr (iblk m c 0 t) (dictTab (iblk m c 1 t)) (gramTab (iblk m c 1 t)) = errAt m c t from rfl, hl]
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · rw [PhiS_pos m c _ hz]
    simp only [before0_4 m c t hz]
    have hl := lossAt_later m c t hz
    iintro ⟨⟨⟨HS0, HS1⟩, Hg⟩, Ho, ⟨%d0, H0⟩, ⟨%d1, H1⟩, ⟨%d2, H2⟩, ⟨%d3, H3⟩, ⟨%d4, H4⟩⟩
    iapply (bodyB c (grid0.coords t) _ _ _ _ _ _ _ _ _ _ _ _ _ _ (fun h => hz (by have := (hcond0_0 t).mp h; omega)) (iblk m c 0 t) (iblk m c 1 t) _ _ _ Set.univ _)
    isplitl [H0]; · iexact H0
    isplitl [H1]; · iexact H1
    isplitl [H2]; · iexists _; iexact H2
    isplitl [H3]; · iexists _; iexact H3
    isplitl [H4]; · iexact H4
    isplitl [HS0]; · iexact HS0
    isplitl [HS1]; · iexact HS1
    rw [show blockErr (iblk m c 0 t) (dictTab (dictBlk m c)) (gramTab (dictBlk m c)) = errAt m c t from rfl, hl]
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the tables are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 8 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The whole launch: every array at what the proof data says, every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Consts.lean ====
module

public import Idealize.ShloMosaic.Lib.Pointwise

@[expose] public section

noncomputable section

/-! # The numbers that the programs' bit patterns denote -/

namespace Cert.Omp

open Idealize.ShloMosaic

/-- The number added to the diagonal of the Gram matrix. -/
def eps : ℝ := 11258999 / 1125899906842624

/-- The least norm a dictionary column is divided by. -/
def tiny : ℝ := 14411519 / 144115188075855872

/-- The width of a bin in the unit interval. -/
def width : ℝ := 8947849 / 67108864

theorem eps_pos : 0 < eps := by norm_num [eps]
theorem tiny_pos : 0 < tiny := by norm_num [tiny]

theorem bits_eps : Ideal.ofBits .f32 0x322BCC77#32 = (eps : EReal) := by
  simp [Ideal.ofBits, Ideal.ieee, -EReal.coe_mul]; norm_num [eps]
theorem bits_tiny : Ideal.ofBits .f32 0x2EDBE6FF#32 = (tiny : EReal) := by
  simp [Ideal.ofBits, Ideal.ieee, -EReal.coe_mul]; norm_num [tiny]
theorem bits_width : Ideal.ofBits .f32 0x3E088889#32 = (width : EReal) := by
  simp [Ideal.ofBits, Ideal.ieee, -EReal.coe_mul]; norm_num [width]
theorem bits_three : Ideal.ofBits .f32 0x40400000#32 = ((3 : ℝ) : EReal) := by
  simp [Ideal.ofBits, Ideal.ieee, -EReal.coe_mul]; norm_num
theorem bits_neg_three : Ideal.ofBits .f32 0xC0400000#32 = ((-3 : ℝ) : EReal) := by
  simp [Ideal.ofBits, Ideal.ieee, -EReal.coe_mul]; norm_num
theorem bits_fifty : Ideal.ofBits .f32 0x42480000#32 = ((50 : ℝ) : EReal) := by
  simp [Ideal.ofBits, Ideal.ieee, -EReal.coe_mul]; norm_num
theorem bits_half_bins : Ideal.ofBits .f32 0x40F00000#32 = ((15 / 2 : ℝ) : EReal) := by
  simp [Ideal.ofBits, Ideal.ieee, -EReal.coe_mul]; norm_num
theorem bits_fifteen : Ideal.ofBits .f32 0x41700000#32 = ((15 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul]; try norm_num
theorem bits_bot : Ideal.ofBits .f32 0xFF800000#32 = ⊥ := by
  simp [Ideal.ofBits, Ideal.ieee, -EReal.coe_mul]; try norm_num
theorem bits_count : Ideal.ofBits .f32 0x4A000000#32 = ((2097152 : ℝ) : EReal) := by
  simp [Ideal.ofBits, Ideal.ieee, -EReal.coe_mul]; norm_num
theorem bits_quarter : Ideal.ofBits .f32 0x3E800000#32 = ((1 / 4 : ℝ) : EReal) := by
  simp [Ideal.ofBits, Ideal.ieee, -EReal.coe_mul]; norm_num
theorem bits_mean : Ideal.ofBits .f32 0x35200000#32 = ((5 / 8388608 : ℝ) : EReal) := by
  simp [Ideal.ofBits, Ideal.ieee, -EReal.coe_mul]; norm_num

end Cert.Omp

end
-- ==== Proof.Spec.lean ====
module

public import proofs.«01_k».proof.Proof.Consts

@[expose] public section

noncomputable section

/-! # Matching pursuit of one signal

Everything both programs compute of one signal, over a dictionary of real columns and a signal of extended reals. The
systems are solved by factoring the Gram matrix; that elimination without factoring gives the same coefficients is
`back` below. -/

namespace Cert.Omp

open Idealize.ShloMosaic

/-! ## The first place at which a function is largest -/

theorem exists_first (f : Fin 1024 → EReal) : ∃ i, (∀ j, f j ≤ f i) ∧ ∀ j, j < i → f j < f i := by
  classical
  obtain ⟨m, -, hm⟩ := Finset.exists_max_image Finset.univ f ⟨0, Finset.mem_univ _⟩
  have hne : (Finset.univ.filter fun i => ∀ j, f j ≤ f i).Nonempty :=
    ⟨m, Finset.mem_filter.2 ⟨Finset.mem_univ _, fun j => hm j (Finset.mem_univ _)⟩⟩
  have hmem := Finset.min'_mem _ hne
  refine ⟨_, (Finset.mem_filter.1 hmem).2, fun j hj => lt_of_not_ge fun hge => ?_⟩
  have : j ∈ Finset.univ.filter fun i => ∀ j, f j ≤ f i :=
    Finset.mem_filter.2 ⟨Finset.mem_univ _, fun k => ((Finset.mem_filter.1 hmem).2 k).trans hge⟩
  exact absurd (Finset.min'_le _ _ this) (not_le.2 hj)

/-- The first place at which a function is largest. -/
def firstMax (f : Fin 1024 → EReal) : Fin 1024 := (exists_first f).choose

theorem firstMax_le (f : Fin 1024 → EReal) (j : Fin 1024) : f j ≤ f (firstMax f) := (exists_first f).choose_spec.1 j

theorem firstMax_lt (f : Fin 1024 → EReal) (j : Fin 1024) (h : j < firstMax f) : f j < f (firstMax f) :=
  (exists_first f).choose_spec.2 j h

theorem firstMax_unique (f : Fin 1024 → EReal) (i : Fin 1024) (h1 : ∀ j, f j ≤ f i) (h2 : ∀ j, j < i → f j < f i) :
    firstMax f = i := by
  rcases lt_trichotomy (firstMax f) i with h | h | h
  · exact absurd (firstMax_le f i) (not_le.2 (h2 _ h))
  · exact h
  · exact absurd (h1 (firstMax f)) (not_le.2 (firstMax_lt f _ h))

/-- Setting some entries aside with minus one is as good as with minus infinity, where the others are not negative and
    there is at least one of them. -/
theorem firstMax_mask (p : Fin 1024 → Prop) [DecidablePred p] (f : Fin 1024 → EReal) (hf : ∀ n, 0 ≤ f n) (hp : ∃ n, ¬p n) :
    firstMax (fun n => if p n then ((-1 : ℝ) : EReal) else f n) = firstMax fun n => if p n then ⊥ else f n := by
  obtain ⟨n, hn⟩ := hp
  have hneg : ((-1 : ℝ) : EReal) < 0 := by exact_mod_cast (by norm_num : (-1 : ℝ) < 0)
  set g : Fin 1024 → EReal := fun n => if p n then ⊥ else f n with hg
  have hi : ¬p (firstMax g) := fun h => by
    have := firstMax_le g n
    simp only [hg] at this
    rw [if_neg hn] at this
    rw [if_pos (by exact h)] at this
    exact absurd (this.trans_lt (hneg.trans_le' bot_le |>.trans_le (hf n))) (lt_irrefl _)
  have hgi : g (firstMax g) = f (firstMax g) := if_neg hi
  refine firstMax_unique _ _ (fun j => ?_) fun j hj => ?_
  · have := firstMax_le g j
    rw [hgi] at this
    have hgj : ¬p j → g j = f j := fun h => if_neg h
    by_cases h : p j
    · simpa only [h, hi, if_true, if_false] using hneg.le.trans (hf _)
    · rw [hgj h] at this
      simpa only [h, hi, if_false] using this
  · have := firstMax_lt g j hj
    rw [hgi] at this
    have hgj : ¬p j → g j = f j := fun h => if_neg h
    by_cases h : p j
    · simpa only [h, hi, if_true, if_false] using hneg.trans_le (hf _)
    · rw [hgj h] at this
      simpa only [h, hi, if_false] using this

/-- The least index at which a maximum is attained, as both programs compute it on words. -/
theorem fold_first (f : Fin 1024 → EReal) :
    Finset.fold IntOp.minsi 2147483647#32
      (fun n : Fin 1024 => if f n = Finset.fold max ⊥ f Finset.univ then BitVec.ofNat 32 n.val else 1024#32) Finset.univ
      = BitVec.ofNat 32 (firstMax f).val := by
  classical
  have hmax : Finset.fold max ⊥ f Finset.univ = f (firstMax f) := by
    refine le_antisymm (Finset.fold_max_le _ |>.2 ⟨bot_le, fun x _ => firstMax_le f x⟩) ?_
    exact Finset.le_fold_max _ |>.2 (.inr ⟨_, Finset.mem_univ _, le_rfl⟩)
  rw [hmax]
  have key : ∀ n : Fin 1024, (BitVec.ofNat 32 n.val).toInt = (n.val : ℤ) := fun n => by
    rw [BitVec.toInt_ofNat', Int.bmod_eq_of_le] <;> omega
  have hm : ∀ x y : BitVec 32, (IntOp.minsi x y).toInt = min x.toInt y.toInt := fun x y => by
    unfold IntOp.minsi
    by_cases h : x.slt y
    · have := BitVec.slt_iff_toInt_lt.1 h
      simp only [h]; simp; omega
    · have : ¬x.toInt < y.toInt := fun h' => h (BitVec.slt_iff_toInt_lt.2 h')
      simp only [h]; simp; omega
  apply BitVec.eq_of_toInt_eq
  rw [← Finset.fold_hom (op' := (min : ℤ → ℤ → ℤ)) hm, key]
  refine le_antisymm (Finset.fold_min_le _ |>.2 (.inr ⟨firstMax f, Finset.mem_univ _, ?_⟩)) ?_
  · rw [if_pos rfl, key]
  · refine Finset.le_fold_min _ |>.2 ⟨?_, fun n _ => ?_⟩
    · have := (firstMax f).isLt
      have h : (2147483647#32 : BitVec 32).toInt = 2147483647 := by decide
      rw [h]; omega
    · split
      · rename_i h
        rw [key]
        rcases lt_or_ge n (firstMax f) with h' | h'
        · exact absurd h (firstMax_lt f n h').ne
        · exact_mod_cast h'
      · have h : (1024#32 : BitVec 32).toInt = 1024 := by decide
        rw [h]; have := (firstMax f).isLt; omega

/-! ## Sums of reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Quotients by reals -/

theorem div_real (x : EReal) {e : ℝ} (he : e ≠ 0) : Ideal.div x (e : EReal) = x * ((e⁻¹ : ℝ) : EReal) := by
  rw [Ideal.div_coe he, one_div]

theorem div_real_real (x : ℝ) {e : ℝ} (he : e ≠ 0) : Ideal.div (x : EReal) (e : EReal) = ((x / e : ℝ) : EReal) := by
  rw [div_real _ he, ← EReal.coe_mul, div_eq_mul_inv]

/-- One step of back substitution: the row of an upper triangular matrix that factors as a pivot times a unit row. -/
theorem back (a c : EReal) (l : ℝ) {e : ℝ} (he : 0 < e) :
    (a - ((l * e : ℝ) : EReal) * c) * ((e⁻¹ : ℝ) : EReal) = a * ((e⁻¹ : ℝ) : EReal) - (l : EReal) * c := by
  have h : (((l * e : ℝ) : EReal) * c) * ((e⁻¹ : ℝ) : EReal) = (l : EReal) * c := by
    rw [mul_right_comm, ← EReal.coe_mul, mul_assoc, mul_inv_cancel₀ he.ne', mul_one]
  rw [sub_eq_add_neg, mul_comm, EReal.left_distrib_of_nonneg_of_ne_top (by exact_mod_cast (inv_pos.2 he).le)
    (EReal.coe_ne_top _), mul_comm, mul_comm _ (-_), EReal.neg_mul, h, ← sub_eq_add_neg]

/-! ## The pursuit -/

section
variable (D : Fin 256 → Fin 1024 → ℝ) (x : Fin 256 → EReal)

/-- How the signal and an atom correlate. -/
def corr0 (n : Fin 1024) : EReal := ∑ c, (D c n : EReal) * x c

/-- The Gram matrix. -/
def gram (i j : Fin 1024) : ℝ := ∑ c, D c i * D c j

theorem gram_comm (i j : Fin 1024) : gram D i j = gram D j i := Finset.sum_congr rfl fun c _ => mul_comm _ _

/-- The magnitude of an extended real. -/
def mag (a : EReal) : EReal := max a (-a)

theorem mag_nonneg (a : EReal) : 0 ≤ mag a := by
  rcases le_total 0 a with h | h
  · exact h.trans (le_max_left _ _)
  · exact (EReal.neg_nonneg.2 h).trans (le_max_right _ _)

def S0 : Fin 1024 := firstMax fun n => mag (corr0 D x n)
def E0 : ℝ := gram D (S0 D x) (S0 D x) + eps
def Y0 : EReal := corr0 D x (S0 D x)
def Z0 : EReal := Y0 D x * (((E0 D x)⁻¹ : ℝ) : EReal)
def corr1 (n : Fin 1024) : EReal := corr0 D x n - Z0 D x * (gram D n (S0 D x) : EReal)

def S1 : Fin 1024 := firstMax fun n => if n = S0 D x then ⊥ else mag (corr1 D x n)
def L10 : ℝ := gram D (S1 D x) (S0 D x) / E0 D x
def E1 : ℝ := gram D (S1 D x) (S1 D x) + eps - L10 D x * L10 D x * E0 D x
def Y1 : EReal := corr0 D x (S1 D x) - (L10 D x : EReal) * Y0 D x
def Z1 : EReal := Y1 D x * (((E1 D x)⁻¹ : ℝ) : EReal)
def C10 : EReal := Z0 D x - (L10 D x : EReal) * Z1 D x
def corr2 (n : Fin 1024) : EReal :=
  corr0 D x n - (C10 D x * (gram D n (S0 D x) : EReal) + Z1 D x * (gram D n (S1 D x) : EReal))

def S2 : Fin 1024 := firstMax fun n => if n = S0 D x ∨ n = S1 D x then ⊥ else mag (corr2 D x n)
def L20 : ℝ := gram D (S2 D x) (S0 D x) / E0 D x
def L21 : ℝ := (gram D (S2 D x) (S1 D x) - L20 D x * L10 D x * E0 D x) / E1 D x
def E2 : ℝ := gram D (S2 D x) (S2 D x) + eps - L20 D x * L20 D x * E0 D x - L21 D x * L21 D x * E1 D x
def Y2 : EReal := corr0 D x (S2 D x) - (L20 D x : EReal) * Y0 D x - (L21 D x : EReal) * Y1 D x
def Z2 : EReal := Y2 D x * (((E2 D x)⁻¹ : ℝ) : EReal)
def C21 : EReal := Z1 D x - (L21 D x : EReal) * Z2 D x
def C20 : EReal := Z0 D x - (L10 D x : EReal) * C21 D x - (L20 D x : EReal) * Z2 D x
def corr3 (n : Fin 1024) : EReal :=
  corr0 D x n - (C20 D x * (gram D n (S0 D x) : EReal) + C21 D x * (gram D n (S1 D x) : EReal)
    + Z2 D x * (gram D n (S2 D x) : EReal))

def S3 : Fin 1024 := firstMax fun n => if (n = S0 D x ∨ n = S1 D x) ∨ n = S2 D x then ⊥ else mag (corr3 D x n)
def L30 : ℝ := gram D (S3 D x) (S0 D x) / E0 D x
def L31 : ℝ := (gram D (S3 D x) (S1 D x) - L30 D x * L10 D x * E0 D x) / E1 D x
def L32 : ℝ :=
  (gram D (S3 D x) (S2 D x) - L30 D x * L20 D x * E0 D x - L31 D x * L21 D x * E1 D x) / E2 D x
def E3 : ℝ :=
  gram D (S3 D x) (S3 D x) + eps - L30 D x * L30 D x * E0 D x - L31 D x * L31 D x * E1 D x
    - L32 D x * L32 D x * E2 D x
def Y3 : EReal :=
  corr0 D x (S3 D x) - (L30 D x : EReal) * Y0 D x - (L31 D x : EReal) * Y1 D x - (L32 D x : EReal) * Y2 D x
def Z3 : EReal := Y3 D x * (((E3 D x)⁻¹ : ℝ) : EReal)
def C32 : EReal := Z2 D x - (L32 D x : EReal) * Z3 D x
def C31 : EReal := Z1 D x - (L21 D x : EReal) * C32 D x - (L31 D x : EReal) * Z3 D x
def C30 : EReal := Z0 D x - (L10 D x : EReal) * C31 D x - (L20 D x : EReal) * C32 D x - (L30 D x : EReal) * Z3 D x

/-! ## The pivots are positive -/

/-- The square of a combination of four atoms. -/
theorem quad (i j k l : Fin 1024) (p q r s : ℝ) :
    0 ≤ p ^ 2 * gram D i i + q ^ 2 * gram D j j + r ^ 2 * gram D k k + s ^ 2 * gram D l l
      + 2 * p * q * gram D j i + 2 * p * r * gram D k i + 2 * p * s * gram D l i
      + 2 * q * r * gram D k j + 2 * q * s * gram D l j + 2 * r * s * gram D l k := by
  have h : p ^ 2 * gram D i i + q ^ 2 * gram D j j + r ^ 2 * gram D k k + s ^ 2 * gram D l l
      + 2 * p * q * gram D j i + 2 * p * r * gram D k i + 2 * p * s * gram D l i
      + 2 * q * r * gram D k j + 2 * q * s * gram D l j + 2 * r * s * gram D l k
      = ∑ c, (p * D c i + q * D c j + r * D c k + s * D c l) ^ 2 := by
    simp only [gram, Finset.mul_sum, ← Finset.sum_add_distrib]
    exact Finset.sum_congr rfl fun c _ => by ring
  rw [h]
  exact Finset.sum_nonneg fun c _ => sq_nonneg _

theorem E0_pos : 0 < E0 D x := by
  have h := quad D (S0 D x) (S0 D x) (S0 D x) (S0 D x) 1 0 0 0
  have := eps_pos
  simp only [E0]
  linarith

theorem g00_eq : gram D (S0 D x) (S0 D x) = E0 D x - eps := by simp only [E0]; ring
theorem g10_eq : gram D (S1 D x) (S0 D x) = L10 D x * E0 D x := by
  rw [L10, div_mul_cancel₀ _ (E0_pos D x).ne']
theorem g11_eq : gram D (S1 D x) (S1 D x) = E1 D x - eps + L10 D x * L10 D x * E0 D x := by simp only [E1]; ring

theorem E1_pos : 0 < E1 D x := by
  have h := quad D (S0 D x) (S1 D x) (S0 D x) (S0 D x) (-L10 D x) 1 0 0
  rw [g00_eq, g10_eq, g11_eq] at h
  nlinarith [eps_pos, mul_nonneg eps_pos.le (sq_nonneg (L10 D x))]

theorem g20_eq : gram D (S2 D x) (S0 D x) = L20 D x * E0 D x := by
  rw [L20, div_mul_cancel₀ _ (E0_pos D x).ne']
theorem g21_eq : gram D (S2 D x) (S1 D x) = L21 D x * E1 D x + L20 D x * L10 D x * E0 D x := by
  rw [L21, div_mul_cancel₀ _ (E1_pos D x).ne']; ring
theorem g22_eq : gram D (S2 D x) (S2 D x)
    = E2 D x - eps + L20 D x * L20 D x * E0 D x + L21 D x * L21 D x * E1 D x := by simp only [E2]; ring

theorem E2_pos : 0 < E2 D x := by
  have h := quad D (S0 D x) (S1 D x) (S2 D x) (S0 D x) (-L20 D x + L10 D x * L21 D x) (-L21 D x) 1 0
  rw [g00_eq, g10_eq, g11_eq, g20_eq, g21_eq, g22_eq] at h
  have e1 := mul_nonneg eps_pos.le (sq_nonneg (-L20 D x + L10 D x * L21 D x))
  have e2 := mul_nonneg eps_pos.le (sq_nonneg (L21 D x))
  have := eps_pos
  ring_nf at h e1 e2
  linarith

theorem g30_eq : gram D (S3 D x) (S0 D x) = L30 D x * E0 D x := by
  rw [L30, div_mul_cancel₀ _ (E0_pos D x).ne']
theorem g31_eq : gram D (S3 D x) (S1 D x) = L31 D x * E1 D x + L30 D x * L10 D x * E0 D x := by
  rw [L31, div_mul_cancel₀ _ (E1_pos D x).ne']; ring
theorem g32_eq : gram D (S3 D x) (S2 D x)
    = L32 D x * E2 D x + L30 D x * L20 D x * E0 D x + L31 D x * L21 D x * E1 D x := by
  rw [L32, div_mul_cancel₀ _ (E2_pos D x).ne']; ring
theorem g33_eq : gram D (S3 D x) (S3 D x)
    = E3 D x - eps + L30 D x * L30 D x * E0 D x + L31 D x * L31 D x * E1 D x + L32 D x * L32 D x * E2 D x := by
  simp only [E3]; ring

theorem E3_pos : 0 < E3 D x := by
  have h := quad D (S0 D x) (S1 D x) (S2 D x) (S3 D x)
    (-L30 D x + L10 D x * (L31 D x - L21 D x * L32 D x) + L20 D x * L32 D x) (-(L31 D x - L21 D x * L32 D x)) (-L32 D x) 1
  rw [g00_eq, g10_eq, g11_eq, g20_eq, g21_eq, g22_eq, g30_eq, g31_eq, g32_eq, g33_eq] at h
  have e1 := mul_nonneg eps_pos.le
    (sq_nonneg (-L30 D x + L10 D x * (L31 D x - L21 D x * L32 D x) + L20 D x * L32 D x))
  have e2 := mul_nonneg eps_pos.le (sq_nonneg (L31 D x - L21 D x * L32 D x))
  have e3 := mul_nonneg eps_pos.le (sq_nonneg (L32 D x))
  have := eps_pos
  ring_nf at h e1 e2 e3
  linarith

end

end Cert.Omp

end
-- ==== Proof.Words.lean ====
module

public import proofs.«01_k».proof.Proof.Spec
public import Idealize.ShloMosaic.Lib.WordCmp

@[expose] public section

noncomputable section

/-! # Masks and selections of atoms, as bits -/

namespace Cert.Omp

open Idealize.ShloMosaic

/-- A condition as a bit. -/
def flag (p : Prop) [Decidable p] : BitVec 1 := BitVec.ofBool (decide p)

theorem flag_eq (n m : Fin 1024) :
    IntOp.cmpi .eq (BitVec.ofNat 32 n.val) (BitVec.ofNat 32 m.val) = flag (n = m) := by
  rw [WordCmp.cmpi_eq_ofNat (by omega) (by omega), flag]
  congr 1
  exact decide_eq_decide.2 Fin.val_inj

theorem flag_or (p q : Prop) [Decidable p] [Decidable q] : IntOp.ori (flag p) (flag q) = flag (p ∨ q) := by
  by_cases hp : p <;> by_cases hq : q <;> simp [flag, hp, hq, IntOp.ori]

theorem flag_false : flag False = 0#1 := by simp [flag]

theorem false_or_flag (p : Prop) [Decidable p] : IntOp.ori 0#1 (flag p) = flag p := by
  by_cases hp : p <;> simp [flag, hp, IntOp.ori]

theorem select_flag {α : Type} (p : Prop) [Decidable p] (a b : α) : Scalar.select (flag p) a b = if p then a else b := by
  by_cases hp : p <;> simp [flag, hp, Scalar.select]

/-- The sum of a row of reals against a single one. -/
theorem sum_unit (f : Fin 1024 → EReal) (m : Fin 1024) :
    ∑ n, f n * FloatOps.sitofp (F := Ideal) .f32 (BitVec.setWidth 32 (flag (n = m))) = f m := by
  rw [Finset.sum_eq_single m]
  · have : FloatOps.sitofp (F := Ideal) .f32 (BitVec.setWidth 32 (flag (m = m))) = (1 : EReal) := by
      show (((BitVec.setWidth 32 (flag (m = m))).toInt : ℝ) : EReal) = 1
      simp [flag]
    rw [this, mul_one]
  · intro n _ hn
    have : FloatOps.sitofp (F := Ideal) .f32 (BitVec.setWidth 32 (flag (n = m))) = (0 : EReal) := by
      show (((BitVec.setWidth 32 (flag (n = m))).toInt : ℝ) : EReal) = 0
      simp [flag, hn]
    rw [this, mul_zero]
  · intro h; exact absurd (Finset.mem_univ _) h

end Cert.Omp

end
-- ==== Proof.Quant.lean ====
module

public import proofs.«01_k».proof.Proof.Spec

@[expose] public section

noncomputable section

/-! # The quantiser

A coefficient is clipped and scaled to the unit interval, companded, rounded to one of sixteen bins and expanded back.
The kernel keeps the bin as a number, the reference as a word; the kernel divides by log 51, the reference multiplies by
one over it. -/

namespace Cert.Omp

open Idealize.ShloMosaic

/-- A coefficient, clipped and scaled to the unit interval. -/
def unit (c : EReal) : ℝ := (min ((3 : ℝ) : EReal) (max ((-3 : ℝ) : EReal) c)).toReal / 3

/-- The companded coefficient. -/
def enc (u : ℝ) : ℝ := (SignType.sign u : ℝ) * (Real.log (1 + |u| * 50) / Real.log 51)

/-- The bin of a coefficient. -/
def bin (c : EReal) : ℤ := Ideal.roundHalfEven ((enc (unit c) + 1) * (15 / 2))

/-- The place of a bin in the unit interval. -/
def place (b : ℤ) : ℝ := (b : ℝ) * width - 1

/-- The coefficient of a bin. -/
def coefQ (b : ℤ) : ℝ :=
  (SignType.sign (place b) : ℝ) * ((Real.exp (|place b| * Real.log 51) - 1) / 50) * 3

theorem log_pos : 0 < Real.log 51 := Real.log_pos (by norm_num)

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem clip_real (c : EReal) : ∃ r : ℝ, min ((3 : ℝ) : EReal) (max ((-3 : ℝ) : EReal) c) = (r : EReal) ∧ -3 ≤ r ∧ r ≤ 3 := by
  induction c using EReal.rec with
  | bot => exact ⟨-3, by rw [max_eq_left bot_le, min_eq_right]; exact_mod_cast (by norm_num : (-3 : ℝ) ≤ 3), le_rfl, by norm_num⟩
  | top => exact ⟨3, by rw [max_eq_right le_top, min_eq_left le_top], by norm_num, le_rfl⟩
  | coe r =>
    refine ⟨min 3 (max (-3) r), ?_, ?_, min_le_left _ _⟩
    · rw [← coe_max, ← coe_min]
    · exact le_min (by norm_num) (le_max_left _ _)

theorem unit_eq (c : EReal) :
    Ideal.div (min ((3 : ℝ) : EReal) (max ((-3 : ℝ) : EReal) c)) ((3 : ℝ) : EReal) = (unit c : EReal) := by
  obtain ⟨r, hr, -, -⟩ := clip_real c
  rw [unit, hr, div_real_real _ (by norm_num), EReal.toReal_coe]

theorem abs_unit (c : EReal) : |unit c| ≤ 1 := by
  obtain ⟨r, hr, h1, h2⟩ := clip_real c
  rw [unit, hr, EReal.toReal_coe, abs_le]
  constructor <;> linarith

theorem mag_coe (r : ℝ) : max (r : EReal) (-(r : EReal)) = ((|r| : ℝ) : EReal) := by
  rw [← EReal.coe_neg, ← coe_max]; rfl

theorem log1p_coe (r : ℝ) (h : 0 ≤ r) : Ideal.log1p (r : EReal) = (Real.log (1 + r) : EReal) := by
  rw [Ideal.log1p, ← EReal.coe_one, ← EReal.coe_add, Ideal.log_coe, if_neg (by linarith)]

/-- The sign by comparisons. -/
theorem sign_cmp (r : ℝ) :
    (if (0 : EReal) < max (r : EReal) (-(r : EReal)) then (if (r : EReal) < 0 then ((-1 : ℝ) : EReal) else 1) else (r : EReal))
      = ((SignType.sign r : ℝ) : EReal) := by
  rw [mag_coe]
  rcases lt_trichotomy r 0 with h | h | h
  · rw [if_pos (by exact_mod_cast abs_pos.2 h.ne), if_pos (by exact_mod_cast h), sign_neg h]; simp
  · subst h; simp
  · rw [if_pos (by exact_mod_cast abs_pos.2 h.ne'), if_neg (by exact_mod_cast h.le.not_gt), sign_pos h]; simp

theorem enc_abs (u : ℝ) (h : |u| ≤ 1) : |enc u| ≤ 1 := by
  have h1 : |(SignType.sign u : ℝ)| ≤ 1 := by
    rcases lt_trichotomy u 0 with h | h | h
    · rw [sign_neg h]; simp
    · subst h; simp
    · rw [sign_pos h]; simp
  have h2 : 0 ≤ Real.log (1 + |u| * 50) := Real.log_nonneg (by nlinarith [abs_nonneg u])
  have h3 : Real.log (1 + |u| * 50) ≤ Real.log 51 :=
    Real.log_le_log (by nlinarith [abs_nonneg u]) (by linarith)
  rw [enc, abs_mul, abs_of_nonneg (div_nonneg h2 log_pos.le)]
  have h4 : Real.log (1 + |u| * 50) / Real.log 51 ≤ 1 := (div_le_one log_pos).2 h3
  nlinarith [abs_nonneg (SignType.sign u : ℝ), div_nonneg h2 log_pos.le]

theorem round_bounds (r : ℝ) (n : ℤ) (h0 : 0 ≤ r) (h1 : r ≤ n) : 0 ≤ Ideal.roundHalfEven r ∧ Ideal.roundHalfEven r ≤ n := by
  have hf : 0 ≤ ⌊r⌋ := Int.floor_nonneg.2 h0
  have hn : ⌊r⌋ ≤ n := by exact_mod_cast (Int.floor_le r).trans h1
  have key : r - ⌊r⌋ ≠ 0 → ⌊r⌋ + 1 ≤ n := fun h => by
    rcases hn.lt_or_eq with h' | h'
    · omega
    · exfalso; apply h; have := Int.floor_le r; rw [h'] at this ⊢; linarith
  unfold Ideal.roundHalfEven
  simp only
  split
  · exact ⟨hf, hn⟩
  · have hk := key (by linarith)
    split
    · exact ⟨by omega, hk⟩
    · split
      · exact ⟨hf, hn⟩
      · exact ⟨by omega, hk⟩

theorem bin_bounds (c : EReal) : 0 ≤ bin c ∧ bin c ≤ 15 := by
  have h := abs_le.1 (enc_abs _ (abs_unit c))
  exact round_bounds _ 15 (by linarith) (by push_cast; linarith)

/-! ## As the kernel computes it -/

theorem kernel_bin (c : EReal) {u : EReal} (hu : u = (unit c : EReal)) {log51 : EReal} (hl : log51 = (Real.log 51 : ℝ)) :
    min ((15 : ℝ) : EReal) (max 0 (Ideal.liftRound Ideal.roundHalfEven
      (((if (0 : EReal) < max u (-u) then (if u < 0 then ((-1 : ℝ) : EReal) else 1) else u)
        * Ideal.div (Ideal.log1p (max u (-u) * ((50 : ℝ) : EReal))) log51 + 1) * ((15 / 2 : ℝ) : EReal))))
      = (((bin c : ℤ) : ℝ) : EReal) := by
  subst hu hl
  rw [sign_cmp, mag_coe, ← EReal.coe_mul, log1p_coe _ (by positivity), div_real_real _ log_pos.ne', ← EReal.coe_mul,
    ← EReal.coe_one, ← EReal.coe_add, ← EReal.coe_mul, Ideal.liftRound_coe]
  obtain ⟨h0, h1⟩ := bin_bounds c
  change min ((15 : ℝ) : EReal) (max 0 (((bin c : ℤ) : ℝ) : EReal)) = _
  rw [max_eq_right (by exact_mod_cast h0), min_eq_right (by exact_mod_cast h1)]

theorem word_bin (b : ℤ) (h0 : 0 ≤ b) (h1 : b ≤ 15) : Ideal.fptosi 32 (((b : ℤ) : ℝ) : EReal) = BitVec.ofInt 32 b := by
  rw [Ideal.fptosi, Ideal.toIntClamped_coe]
  congr 1
  rw [if_pos (by exact_mod_cast h0), Int.floor_intCast]
  norm_num
  omega

theorem kernel_coef (b : ℤ) {z : EReal} (hz : z = (place b : EReal)) {log51 : EReal} (hl : log51 = (Real.log 51 : ℝ)) :
    (if (0 : EReal) < max z (-z) then (if z < 0 then ((-1 : ℝ) : EReal) else 1) else z)
      * Ideal.div (Ideal.exp (max z (-z) * log51) - 1) ((50 : ℝ) : EReal) * ((3 : ℝ) : EReal) = (coefQ b : EReal) := by
  subst hz hl
  rw [sign_cmp, mag_coe, ← EReal.coe_mul, Ideal.exp_coe, ← EReal.coe_one, ← EReal.coe_sub, div_real_real _ (by norm_num),
    ← EReal.coe_mul, ← EReal.coe_mul]
  rfl

theorem place_eq (b : ℤ) : (((b : ℤ) : ℝ) : EReal) * (width : EReal) - 1 = (place b : EReal) := by
  rw [← EReal.coe_mul, ← EReal.coe_one, ← EReal.coe_sub]; rfl

/-! ## As the reference computes it -/

theorem inv_log : Ideal.div 1 (Ideal.log1p ((50 : ℝ) : EReal)) = (((Real.log 51)⁻¹ : ℝ) : EReal) := by
  rw [log1p_coe _ (by norm_num), show (1 + 50 : ℝ) = 51 by norm_num, div_real _ log_pos.ne', one_mul]

theorem reference_bin (c : EReal) {u : EReal} (hu : u = (unit c : EReal)) {il : EReal} (hl : il = (((Real.log 51)⁻¹ : ℝ) : EReal)) :
    IntOp.minsi 15#32 (IntOp.maxsi 0#32 (Ideal.fptosi 32 (Ideal.liftRound Ideal.roundHalfEven
      ((Ideal.sign u * Ideal.log1p (max u (-u) * ((50 : ℝ) : EReal)) * il + 1) * ((15 / 2 : ℝ) : EReal)))))
      = BitVec.ofInt 32 (bin c) := by
  subst hu hl
  rw [Ideal.sign_coe, mag_coe, ← EReal.coe_mul, log1p_coe _ (by positivity), ← EReal.coe_mul, ← EReal.coe_mul,
    ← EReal.coe_one, ← EReal.coe_add, ← EReal.coe_mul, Ideal.liftRound_coe]
  have he : ((SignType.sign (unit c) : ℝ) * Real.log (1 + |unit c| * 50) * (Real.log 51)⁻¹ + 1) * (15 / 2)
      = (enc (unit c) + 1) * (15 / 2) := by rw [enc]; ring
  rw [he]
  obtain ⟨h0, h1⟩ := bin_bounds c
  change IntOp.minsi 15#32 (IntOp.maxsi 0#32 (Ideal.fptosi 32 (((bin c : ℤ) : ℝ) : EReal))) = _
  rw [word_bin _ h0 h1]
  generalize bin c = b at h0 h1
  interval_cases b <;> rfl

theorem number_bin (b : ℤ) (h0 : 0 ≤ b) (h1 : b ≤ 15) :
    FloatOps.sitofp (F := Ideal) .f32 (BitVec.ofInt 32 b) = (((b : ℤ) : ℝ) : EReal) := by
  show (((BitVec.ofInt 32 b).toInt : ℝ) : EReal) = _
  rw [BitVec.toInt_ofInt, Int.bmod_eq_of_le (by omega) (by omega)]

theorem reference_coef (b : ℤ) {z : EReal} (hz : z = (place b : EReal)) {il : EReal}
    (hl : il = (((Real.log 51)⁻¹ : ℝ) : EReal)) :
    Ideal.sign z * Ideal.div (Ideal.exp (Ideal.div (max z (-z)) il) - 1) ((50 : ℝ) : EReal) * ((3 : ℝ) : EReal)
      = (coefQ b : EReal) := by
  subst hz hl
  rw [Ideal.sign_coe, mag_coe, div_real_real _ (inv_pos.2 log_pos).ne', Ideal.exp_coe, ← EReal.coe_one, ← EReal.coe_sub,
    div_real_real _ (by norm_num), ← EReal.coe_mul, ← EReal.coe_mul, div_inv_eq_mul]
  rfl

end Cert.Omp

end
-- ==== Proof.Code.lean ====
module

public import proofs.«01_k».proof.Proof.Words
public import proofs.«01_k».proof.Proof.Quant

@[expose] public section

noncomputable section

/-! # What a signal is coded as -/

namespace Cert.Omp

open Idealize.ShloMosaic

section
variable (D : Fin 256 → Fin 1024 → ℝ) (x : Fin 256 → EReal)

/-- The quantised reconstruction of a signal. -/
def rec (c : Fin 256) : ℝ :=
  D c (S0 D x) * coefQ (bin (C30 D x)) + D c (S1 D x) * coefQ (bin (C31 D x))
    + D c (S2 D x) * coefQ (bin (C32 D x)) + D c (S3 D x) * coefQ (bin (Z3 D x))

/-- What the reconstruction misses. -/
def miss (c : Fin 256) : EReal := (rec D x c : EReal) - x c

/-- A token: the atom's number and the bin's. -/
def token (s : Fin 1024) (c : EReal) : BitVec 32 := IntOp.addi (IntOp.muli (BitVec.ofNat 32 s.val) 16#32) (BitVec.ofInt 32 (bin c))

/-- The four atoms of a signal. -/
def sels : Fin 4 → Fin 1024 := ![S0 D x, S1 D x, S2 D x, S3 D x]

/-- The four coefficients of a signal. -/
def coefs : Fin 4 → EReal := ![C30 D x, C31 D x, C32 D x, Z3 D x]

end

end Cert.Omp

end
-- ==== Proof.KernCol.lean ====
module

public import proofs.«01_k».proof.Proof.Slab
public import proofs.«01_k».proof.Proof.Code
public import Idealize.ShloMosaic.Lib.Pointwise

@[expose] public section

noncomputable section

/-! # A slab of the kernel, one signal at a time

At every column a slab's stages are the pursuit of that signal, once the two scratch tables hold the dictionary and its
Gram matrix. -/

namespace Cert.KernelIdeal.Hand

open Cert.KernelIdeal.Gen Cert.Omp
open Idealize.ShloMosaic Idealize.ShloMosaic.TcCoe Idealize.ShloMosaic.Tactic

/-- A column of a slab. -/
def col (x : FVec Ideal S256x256 .f32) (j : Fin 256) (c : Fin 256) : EReal := x (ix2 c j)

section Blocks

theorem selOf_at (a : FVec Ideal S1024x256 .f32) (j : Fin 256) (f : Fin 1024 → EReal) (h : ∀ n, a (ix2 n j) = f n) :
    selOf a (ix2 0 j) = BitVec.ofNat 32 (firstMax f).val := by
  have hf : f = fun n => a (ix2 n j) := funext fun n => (h n).symm
  subst hf
  rw [← fold_first, ← bits_bot]
  pointwise [selOf, iotaN]

theorem absMasked_at (m : IVec S1024x256 1) (a : FVec Ideal S1024x256 .f32) (j : Fin 256) (n : Fin 1024) (p : Prop) [Decidable p]
    (r : EReal) (hm : m (ix2 n j) = flag p) (h : a (ix2 n j) = r) :
    absMasked m a (ix2 n j) = if p then ((-1 : ℝ) : EReal) else mag r := by
  subst h
  rw [← select_flag, ← hm, ← bits_neg_one]
  pointwise [absMasked]
  rfl

/-- The selected atom: a mask of minus one passes over the atoms taken, since other magnitudes are not negative. -/
theorem sel_at (m : IVec S1024x256 1) (a : FVec Ideal S1024x256 .f32) (j : Fin 256) (p : Fin 1024 → Prop) [DecidablePred p]
    (f : Fin 1024 → EReal) (hp : ∃ n, ¬p n) (hm : ∀ n, m (ix2 n j) = flag (p n)) (h : ∀ n, a (ix2 n j) = f n) :
    selOf (absMasked m a) (ix2 0 j) = BitVec.ofNat 32 (firstMax fun n => if p n then ⊥ else mag (f n)).val := by
  rw [← firstMax_mask p (fun n => mag (f n)) (fun n => mag_nonneg _) hp]
  exact selOf_at _ j _ fun n => absMasked_at _ _ j n _ _ (hm n) (h n)

theorem hotOf_at (s : IVec S1x256 32) (j : Fin 256) (n m : Fin 1024) (h : s (ix2 0 j) = BitVec.ofNat 32 m.val) :
    hotOf s (ix2 n j) = flag (n = m) := by
  rw [← flag_eq, ← h]
  pointwise [hotOf, iotaN]

theorem colSum_at (a b : FVec Ideal S256x256 .f32) (j : Fin 256) :
    colSum a b (ix2 0 j) = ∑ c : Fin 256, a (ix2 c j) * b (ix2 c j) := by
  pointwise [colSum]

theorem eps_at (j : Fin 256) : rowC (F := Ideal) 0x322BCC77#32 (ix2 0 j) = (eps : EReal) := by
  rw [← bits_eps]; pointwise [rowC]

theorem one_at (j : Fin 256) : rowC (F := Ideal) 0x3F800000#32 (ix2 0 j) = 1 := by
  pointwise [rowC]

theorem scaleRow_at (c : FVec Ideal S1x256 .f32) (g : FVec Ideal S1024x256 .f32) (n : Fin 1024) (j : Fin 256) :
    scaleRow c g (ix2 n j) = c (ix2 0 j) * g (ix2 n j) := by
  pointwise [scaleRow]

theorem others (i j k : Fin 1024) : ∃ n : Fin 1024, ¬((n = i ∨ n = j) ∨ n = k) := by
  by_contra h
  push Not at h
  have h0 := h 0; have h1 := h 1; have h2 := h 2; have h3 := h 3
  simp only [Fin.ext_iff] at h0 h1 h2 h3
  simp at h0 h1 h2 h3
  omega

end Blocks

section Stages
variable (dstk : Vec Ideal S512x1024 .bf16) (gstk : Vec Ideal S2048x1024 .bf16) (x : FVec Ideal S256x256 .f32)
  (D : Fin 256 → Fin 1024 → ℝ)

/-- The dictionary table holds the dictionary, and nothing in its lower half. -/
structure IsDict : Prop where
  hi : ∀ (c : Fin 256) (n : Fin 1024), dstk (ix2 ⟨c.val, by omega⟩ n) = (D c n : EReal)
  lo : ∀ (c : Fin 256) (n : Fin 1024), dstk (ix2 ⟨256 + c.val, by omega⟩ n) = (0 : EReal)

/-- The Gram table holds the Gram matrix, and nothing in its lower half. -/
structure IsGram : Prop where
  hi : ∀ (i n : Fin 1024), gstk (ix2 ⟨i.val, by omega⟩ n) = (gram D i n : EReal)
  lo : ∀ (i n : Fin 1024), gstk (ix2 ⟨1024 + i.val, by omega⟩ n) = (0 : EReal)

variable (hD : IsDict dstk D) (hG : IsGram gstk D) (j : Fin 256)

theorem xr_at (c : Fin 256) : xr x (ix2 c j) = col x j c := by
  pointwise [xr]
  rfl

theorem noMask_at (n : Fin 1024) : broadcast S1024x256 0#1 (ix2 n j) = flag False := flag_false.symm

section
variable (s : IVec S1x256 32) (m : Fin 1024) (h : s (ix2 0 j) = BitVec.ofNat 32 m.val)
include h

include hD in
theorem atomHi_at (c : Fin 256) : atomHi dstk (hotOf s) (ix2 c j) = (D c m : EReal) := by
  rw [← hD.hi, ← sum_unit (fun n => dstk (ix2 ⟨c.val, by omega⟩ n)) m]
  simp only [← hotOf_at s j _ m h]
  generalize hotOf s = t
  pointwise [atomHi, atomOf, unitOf]

include hD in
theorem atomLo_at (c : Fin 256) : atomLo dstk (hotOf s) (ix2 c j) = (0 : EReal) := by
  rw [← hD.lo c m, ← sum_unit (fun n => dstk (ix2 ⟨256 + c.val, by omega⟩ n)) m]
  simp only [← hotOf_at s j _ m h]
  generalize hotOf s = t
  pointwise [atomLo, atomOf, unitOf]

include hG in
theorem gramCol_at (n : Fin 1024) : gramCol gstk (hotOf s) (ix2 n j) = (gram D n m : EReal) := by
  rw [← add_zero ((gram D n m : ℝ) : EReal), ← hG.hi, ← hG.lo n m,
    ← sum_unit (fun i => gstk (ix2 ⟨n.val, by omega⟩ i)) m, ← sum_unit (fun i => gstk (ix2 ⟨1024 + n.val, by omega⟩ i)) m]
  simp only [← hotOf_at s j _ m h]
  generalize hotOf s = t
  pointwise [gramCol, gramBoth, unitOf]

include hG in
theorem part_at (c : FVec Ideal S1x256 .f32) {r : EReal} (hc : c (ix2 0 j) = r) (n : Fin 1024) :
    scaleRow c (gramCol gstk (hotOf s)) (ix2 n j) = r * (gram D n m : EReal) := by
  rw [scaleRow_at, gramCol_at gstk D hG j s m h, hc]

end

include hD

theorem alpha_at (n : Fin 1024) : alpha dstk x (ix2 n j) = corr0 D (col x j) n := by
  simp only [corr0, ← hD.hi, col]
  pointwise [alpha]

omit x in
theorem g_at (s t : IVec S1x256 32) (n m : Fin 1024) (h : s (ix2 0 j) = BitVec.ofNat 32 n.val)
    (h' : t (ix2 0 j) = BitVec.ofNat 32 m.val) :
    colSum (atomHi dstk (hotOf s)) (atomHi dstk (hotOf t)) (ix2 0 j) = (gram D n m : EReal) := by
  rw [colSum_at, gram, coe_sum]
  exact Finset.sum_congr rfl fun c _ => by
    rw [atomHi_at dstk D hD j s n h, atomHi_at dstk D hD j t m h', EReal.coe_mul]

theorem b_at (s : IVec S1x256 32) (n : Fin 1024) (h : s (ix2 0 j) = BitVec.ofNat 32 n.val) :
    colSum (atomHi dstk (hotOf s)) (xr x) (ix2 0 j) = corr0 D (col x j) n := by
  rw [colSum_at, corr0]
  exact Finset.sum_congr rfl fun c _ => by rw [atomHi_at dstk D hD j s n h, xr_at]

/-! ### The first atom -/

theorem sel0_at : sel0 dstk x (ix2 0 j) = BitVec.ofNat 32 (S0 D (col x j)).val := by
  have h := sel_at _ _ j (fun _ => False) _ ⟨0, id⟩ (noMask_at j) (alpha_at dstk x D hD j)
  simp only [if_false] at h
  exact h

theorem mask0_at (n : Fin 1024) : mask0 dstk x (ix2 n j) = flag (n = S0 D (col x j)) := by
  show IntOp.ori 0#1 (hotOf (sel0 dstk x) (ix2 n j)) = _
  rw [hotOf_at _ j n _ (sel0_at dstk x D hD j), false_or_flag]

theorem b0_at : b0 dstk x (ix2 0 j) = Y0 D (col x j) :=
  b_at dstk x D hD j _ _ (sel0_at dstk x D hD j)

theorem g00_at : g00 dstk x (ix2 0 j) = (gram D (S0 D (col x j)) (S0 D (col x j)) : EReal) :=
  g_at dstk D hD j _ _ _ _ (sel0_at dstk x D hD j) (sel0_at dstk x D hD j)

theorem d0_at : d0 dstk x (ix2 0 j) = (E0 D (col x j) : EReal) := by
  show g00 dstk x (ix2 0 j) + rowC (F := Ideal) 0x322BCC77#32 (ix2 0 j) = _
  rw [g00_at dstk x D hD j, eps_at]
  simp only [← EReal.coe_mul, ← EReal.coe_sub, ← EReal.coe_add]
  rfl

theorem r0_at : r0 dstk x (ix2 0 j) = (((E0 D (col x j))⁻¹ : ℝ) : EReal) := by
  show Ideal.div (rowC (F := Ideal) 0x3F800000#32 (ix2 0 j)) (d0 dstk x (ix2 0 j)) = _
  rw [one_at, d0_at dstk x D hD j, div_real _ (E0_pos _ _).ne', one_mul]

theorem z0_at : z0 dstk x (ix2 0 j) = Z0 D (col x j) := by
  show Ideal.div (b0 dstk x (ix2 0 j)) (d0 dstk x (ix2 0 j)) = _
  rw [b0_at dstk x D hD j, d0_at dstk x D hD j, div_real _ (E0_pos _ _).ne']
  rfl

include hG in
theorem corr1_at (n : Fin 1024) : corr1 dstk gstk x (ix2 n j) = Omp.corr1 D (col x j) n := by
  show alpha dstk x (ix2 n j) - scaleRow (z0 dstk x) (gramCol gstk (hotOf (sel0 dstk x))) (ix2 n j) = _
  rw [alpha_at dstk x D hD, part_at gstk D hG j _ _ (sel0_at dstk x D hD j) _ (z0_at dstk x D hD j)]
  rfl

/-! ### The second atom -/

include hG

theorem sel1_at : sel1 dstk gstk x (ix2 0 j) = BitVec.ofNat 32 (Omp.S1 D (col x j)).val :=
  sel_at _ _ j (fun n => n = S0 D (col x j)) _ ((others (S0 D (col x j)) (S0 D (col x j)) (S0 D (col x j))).imp fun _ h h' => h (.inr h')) (mask0_at dstk x D hD j) (corr1_at dstk gstk x D hD hG j)

theorem mask1_at (n : Fin 1024) : mask1 dstk gstk x (ix2 n j) = flag (n = S0 D (col x j) ∨ n = Omp.S1 D (col x j)) := by
  show IntOp.ori (mask0 dstk x (ix2 n j)) (hotOf (sel1 dstk gstk x) (ix2 n j)) = _
  rw [mask0_at dstk x D hD j, hotOf_at _ j n _ (sel1_at dstk gstk x D hD hG j), flag_or]

theorem b1_at : b1 dstk gstk x (ix2 0 j) = corr0 D (col x j) (Omp.S1 D (col x j)) :=
  b_at dstk x D hD j _ _ (sel1_at dstk gstk x D hD hG j)

theorem g10_at : g10 dstk gstk x (ix2 0 j) = (gram D (Omp.S1 D (col x j)) (S0 D (col x j)) : EReal) :=
  g_at dstk D hD j _ _ _ _ (sel1_at dstk gstk x D hD hG j) (sel0_at dstk x D hD j)

theorem g11_at : g11 dstk gstk x (ix2 0 j) = (gram D (Omp.S1 D (col x j)) (Omp.S1 D (col x j)) : EReal) :=
  g_at dstk D hD j _ _ _ _ (sel1_at dstk gstk x D hD hG j) (sel1_at dstk gstk x D hD hG j)

theorem l10_at : l10 dstk gstk x (ix2 0 j) = (L10 D (col x j) : EReal) := by
  show g10 dstk gstk x (ix2 0 j) * r0 dstk x (ix2 0 j) = _
  rw [g10_at dstk gstk x D hD hG j, r0_at dstk x D hD j]
  simp only [← EReal.coe_mul, ← EReal.coe_sub]
  rw [← div_eq_mul_inv]
  rfl

theorem d1_at : d1 dstk gstk x (ix2 0 j) = (E1 D (col x j) : EReal) := by
  show g11 dstk gstk x (ix2 0 j) + rowC (F := Ideal) 0x322BCC77#32 (ix2 0 j) - l10 dstk gstk x (ix2 0 j) * l10 dstk gstk x (ix2 0 j) * d0 dstk x (ix2 0 j) = _
  rw [g11_at dstk gstk x D hD hG j, eps_at, l10_at dstk gstk x D hD hG j, d0_at dstk x D hD j]
  simp only [← EReal.coe_mul, ← EReal.coe_sub, ← EReal.coe_add]
  rfl

theorem r1_at : r1 dstk gstk x (ix2 0 j) = (((E1 D (col x j))⁻¹ : ℝ) : EReal) := by
  show Ideal.div (rowC (F := Ideal) 0x3F800000#32 (ix2 0 j)) (d1 dstk gstk x (ix2 0 j)) = _
  rw [one_at, d1_at dstk gstk x D hD hG j, div_real _ (E1_pos _ _).ne', one_mul]

theorem y1_at : y1 dstk gstk x (ix2 0 j) = Y1 D (col x j) := by
  show b1 dstk gstk x (ix2 0 j) - l10 dstk gstk x (ix2 0 j) * b0 dstk x (ix2 0 j) = _
  rw [b1_at dstk gstk x D hD hG j, l10_at dstk gstk x D hD hG j, b0_at dstk x D hD j]
  rfl

theorem z1_at : z1 dstk gstk x (ix2 0 j) = Z1 D (col x j) := by
  show Ideal.div (y1 dstk gstk x (ix2 0 j)) (d1 dstk gstk x (ix2 0 j)) = _
  rw [y1_at dstk gstk x D hD hG j, d1_at dstk gstk x D hD hG j, div_real _ (E1_pos _ _).ne']
  rfl

theorem c10_at : c10 dstk gstk x (ix2 0 j) = C10 D (col x j) := by
  show z0 dstk x (ix2 0 j) - l10 dstk gstk x (ix2 0 j) * z1 dstk gstk x (ix2 0 j) = _
  rw [z0_at dstk x D hD j, l10_at dstk gstk x D hD hG j, z1_at dstk gstk x D hD hG j]
  rfl

theorem corr2_at (n : Fin 1024) : corr2 dstk gstk x (ix2 n j) = Omp.corr2 D (col x j) n := by
  show alpha dstk x (ix2 n j) - (scaleRow (c10 dstk gstk x) (gramCol gstk (hotOf (sel0 dstk x))) (ix2 n j) + scaleRow (z1 dstk gstk x) (gramCol gstk (hotOf (sel1 dstk gstk x))) (ix2 n j)) = _
  rw [alpha_at dstk x D hD, part_at gstk D hG j _ _ (sel0_at dstk x D hD j) _ (c10_at dstk gstk x D hD hG j), part_at gstk D hG j _ _ (sel1_at dstk gstk x D hD hG j) _ (z1_at dstk gstk x D hD hG j)]
  rfl

/-! ### The third atom -/

theorem sel2_at : sel2 dstk gstk x (ix2 0 j) = BitVec.ofNat 32 (S2 D (col x j)).val :=
  sel_at _ _ j (fun n => n = S0 D (col x j) ∨ n = Omp.S1 D (col x j)) _ ((others _ _ (S0 D (col x j))).imp fun _ h h' => h (.inl h')) (mask1_at dstk gstk x D hD hG j) (corr2_at dstk gstk x D hD hG j)

theorem mask2_at (n : Fin 1024) : mask2 dstk gstk x (ix2 n j) = flag ((n = S0 D (col x j) ∨ n = Omp.S1 D (col x j)) ∨ n = S2 D (col x j)) := by
  show IntOp.ori (mask1 dstk gstk x (ix2 n j)) (hotOf (sel2 dstk gstk x) (ix2 n j)) = _
  rw [mask1_at dstk gstk x D hD hG j, hotOf_at _ j n _ (sel2_at dstk gstk x D hD hG j), flag_or]

theorem b2_at : b2 dstk gstk x (ix2 0 j) = corr0 D (col x j) (S2 D (col x j)) :=
  b_at dstk x D hD j _ _ (sel2_at dstk gstk x D hD hG j)

theorem g20_at : g20 dstk gstk x (ix2 0 j) = (gram D (S2 D (col x j)) (S0 D (col x j)) : EReal) :=
  g_at dstk D hD j _ _ _ _ (sel2_at dstk gstk x D hD hG j) (sel0_at dstk x D hD j)

theorem g21_at : g21 dstk gstk x (ix2 0 j) = (gram D (S2 D (col x j)) (Omp.S1 D (col x j)) : EReal) :=
  g_at dstk D hD j _ _ _ _ (sel2_at dstk gstk x D hD hG j) (sel1_at dstk gstk x D hD hG j)

theorem g22_at : g22 dstk gstk x (ix2 0 j) = (gram D (S2 D (col x j)) (S2 D (col x j)) : EReal) :=
  g_at dstk D hD j _ _ _ _ (sel2_at dstk gstk x D hD hG j) (sel2_at dstk gstk x D hD hG j)

theorem l20_at : l20 dstk gstk x (ix2 0 j) = (L20 D (col x j) : EReal) := by
  show g20 dstk gstk x (ix2 0 j) * r0 dstk x (ix2 0 j) = _
  rw [g20_at dstk gstk x D hD hG j, r0_at dstk x D hD j]
  simp only [← EReal.coe_mul, ← EReal.coe_sub]
  rw [← div_eq_mul_inv]
  rfl

theorem l21_at : l21 dstk gstk x (ix2 0 j) = (L21 D (col x j) : EReal) := by
  show (g21 dstk gstk x (ix2 0 j) - l20 dstk gstk x (ix2 0 j) * l10 dstk gstk x (ix2 0 j) * d0 dstk x (ix2 0 j)) * r1 dstk gstk x (ix2 0 j) = _
  rw [g21_at dstk gstk x D hD hG j, l20_at dstk gstk x D hD hG j, l10_at dstk gstk x D hD hG j, d0_at dstk x D hD j, r1_at dstk gstk x D hD hG j]
  simp only [← EReal.coe_mul, ← EReal.coe_sub]
  rw [← div_eq_mul_inv]
  rfl

theorem d2_at : d2 dstk gstk x (ix2 0 j) = (E2 D (col x j) : EReal) := by
  show g22 dstk gstk x (ix2 0 j) + rowC (F := Ideal) 0x322BCC77#32 (ix2 0 j) - l20 dstk gstk x (ix2 0 j) * l20 dstk gstk x (ix2 0 j) * d0 dstk x (ix2 0 j) - l21 dstk gstk x (ix2 0 j) * l21 dstk gstk x (ix2 0 j) * d1 dstk gstk x (ix2 0 j) = _
  rw [g22_at dstk gstk x D hD hG j, eps_at, l20_at dstk gstk x D hD hG j, d0_at dstk x D hD j, l21_at dstk gstk x D hD hG j, d1_at dstk gstk x D hD hG j]
  simp only [← EReal.coe_mul, ← EReal.coe_sub, ← EReal.coe_add]
  rfl

theorem r2_at : r2 dstk gstk x (ix2 0 j) = (((E2 D (col x j))⁻¹ : ℝ) : EReal) := by
  show Ideal.div (rowC (F := Ideal) 0x3F800000#32 (ix2 0 j)) (d2 dstk gstk x (ix2 0 j)) = _
  rw [one_at, d2_at dstk gstk x D hD hG j, div_real _ (E2_pos _ _).ne', one_mul]

theorem y2_at : y2 dstk gstk x (ix2 0 j) = Y2 D (col x j) := by
  show b2 dstk gstk x (ix2 0 j) - l20 dstk gstk x (ix2 0 j) * b0 dstk x (ix2 0 j) - l21 dstk gstk x (ix2 0 j) * y1 dstk gstk x (ix2 0 j) = _
  rw [b2_at dstk gstk x D hD hG j, l20_at dstk gstk x D hD hG j, b0_at dstk x D hD j, l21_at dstk gstk x D hD hG j, y1_at dstk gstk x D hD hG j]
  rfl

theorem z2_at : z2 dstk gstk x (ix2 0 j) = Z2 D (col x j) := by
  show Ideal.div (y2 dstk gstk x (ix2 0 j)) (d2 dstk gstk x (ix2 0 j)) = _
  rw [y2_at dstk gstk x D hD hG j, d2_at dstk gstk x D hD hG j, div_real _ (E2_pos _ _).ne']
  rfl

theorem c21_at : c21 dstk gstk x (ix2 0 j) = C21 D (col x j) := by
  show z1 dstk gstk x (ix2 0 j) - l21 dstk gstk x (ix2 0 j) * z2 dstk gstk x (ix2 0 j) = _
  rw [z1_at dstk gstk x D hD hG j, l21_at dstk gstk x D hD hG j, z2_at dstk gstk x D hD hG j]
  rfl

theorem c20_at : c20 dstk gstk x (ix2 0 j) = C20 D (col x j) := by
  show z0 dstk x (ix2 0 j) - l10 dstk gstk x (ix2 0 j) * c21 dstk gstk x (ix2 0 j) - l20 dstk gstk x (ix2 0 j) * z2 dstk gstk x (ix2 0 j) = _
  rw [z0_at dstk x D hD j, l10_at dstk gstk x D hD hG j, c21_at dstk gstk x D hD hG j, l20_at dstk gstk x D hD hG j, z2_at dstk gstk x D hD hG j]
  rfl

theorem corr3_at (n : Fin 1024) : corr3 dstk gstk x (ix2 n j) = Omp.corr3 D (col x j) n := by
  show alpha dstk x (ix2 n j) - (scaleRow (c20 dstk gstk x) (gramCol gstk (hotOf (sel0 dstk x))) (ix2 n j) + scaleRow (c21 dstk gstk x) (gramCol gstk (hotOf (sel1 dstk gstk x))) (ix2 n j) + scaleRow (z2 dstk gstk x) (gramCol gstk (hotOf (sel2 dstk gstk x))) (ix2 n j)) = _
  rw [alpha_at dstk x D hD, part_at gstk D hG j _ _ (sel0_at dstk x D hD j) _ (c20_at dstk gstk x D hD hG j), part_at gstk D hG j _ _ (sel1_at dstk gstk x D hD hG j) _ (c21_at dstk gstk x D hD hG j), part_at gstk D hG j _ _ (sel2_at dstk gstk x D hD hG j) _ (z2_at dstk gstk x D hD hG j)]
  rfl

/-! ### The fourth atom -/

theorem sel3_at : sel3 dstk gstk x (ix2 0 j) = BitVec.ofNat 32 (S3 D (col x j)).val :=
  sel_at _ _ j (fun n => (n = S0 D (col x j) ∨ n = Omp.S1 D (col x j)) ∨ n = S2 D (col x j)) _ (others _ _ _) (mask2_at dstk gstk x D hD hG j) (corr3_at dstk gstk x D hD hG j)

theorem b3_at : b3 dstk gstk x (ix2 0 j) = corr0 D (col x j) (S3 D (col x j)) :=
  b_at dstk x D hD j _ _ (sel3_at dstk gstk x D hD hG j)

theorem g30_at : g30 dstk gstk x (ix2 0 j) = (gram D (S3 D (col x j)) (S0 D (col x j)) : EReal) :=
  g_at dstk D hD j _ _ _ _ (sel3_at dstk gstk x D hD hG j) (sel0_at dstk x D hD j)

theorem g31_at : g31 dstk gstk x (ix2 0 j) = (gram D (S3 D (col x j)) (Omp.S1 D (col x j)) : EReal) :=
  g_at dstk D hD j _ _ _ _ (sel3_at dstk gstk x D hD hG j) (sel1_at dstk gstk x D hD hG j)

theorem g32_at : g32 dstk gstk x (ix2 0 j) = (gram D (S3 D (col x j)) (S2 D (col x j)) : EReal) :=
  g_at dstk D hD j _ _ _ _ (sel3_at dstk gstk x D hD hG j) (sel2_at dstk gstk x D hD hG j)

theorem g33_at : g33 dstk gstk x (ix2 0 j) = (gram D (S3 D (col x j)) (S3 D (col x j)) : EReal) :=
  g_at dstk D hD j _ _ _ _ (sel3_at dstk gstk x D hD hG j) (sel3_at dstk gstk x D hD hG j)

theorem l30_at : l30 dstk gstk x (ix2 0 j) = (L30 D (col x j) : EReal) := by
  show g30 dstk gstk x (ix2 0 j) * r0 dstk x (ix2 0 j) = _
  rw [g30_at dstk gstk x D hD hG j, r0_at dstk x D hD j]
  simp only [← EReal.coe_mul, ← EReal.coe_sub]
  rw [← div_eq_mul_inv]
  rfl

theorem l31_at : l31 dstk gstk x (ix2 0 j) = (L31 D (col x j) : EReal) := by
  show (g31 dstk gstk x (ix2 0 j) - l30 dstk gstk x (ix2 0 j) * l10 dstk gstk x (ix2 0 j) * d0 dstk x (ix2 0 j)) * r1 dstk gstk x (ix2 0 j) = _
  rw [g31_at dstk gstk x D hD hG j, l30_at dstk gstk x D hD hG j, l10_at dstk gstk x D hD hG j, d0_at dstk x D hD j, r1_at dstk gstk x D hD hG j]
  simp only [← EReal.coe_mul, ← EReal.coe_sub]
  rw [← div_eq_mul_inv]
  rfl

theorem l32_at : l32 dstk gstk x (ix2 0 j) = (L32 D (col x j) : EReal) := by
  show (g32 dstk gstk x (ix2 0 j) - l30 dstk gstk x (ix2 0 j) * l20 dstk gstk x (ix2 0 j) * d0 dstk x (ix2 0 j) - l31 dstk gstk x (ix2 0 j) * l21 dstk gstk x (ix2 0 j) * d1 dstk gstk x (ix2 0 j)) * r2 dstk gstk x (ix2 0 j) = _
  rw [g32_at dstk gstk x D hD hG j, l30_at dstk gstk x D hD hG j, l20_at dstk gstk x D hD hG j, d0_at dstk x D hD j, l31_at dstk gstk x D hD hG j, l21_at dstk gstk x D hD hG j, d1_at dstk gstk x D hD hG j, r2_at dstk gstk x D hD hG j]
  simp only [← EReal.coe_mul, ← EReal.coe_sub]
  rw [← div_eq_mul_inv]
  rfl

theorem d3_at : d3 dstk gstk x (ix2 0 j) = (E3 D (col x j) : EReal) := by
  show g33 dstk gstk x (ix2 0 j) + rowC (F := Ideal) 0x322BCC77#32 (ix2 0 j) - l30 dstk gstk x (ix2 0 j) * l30 dstk gstk x (ix2 0 j) * d0 dstk x (ix2 0 j) - l31 dstk gstk x (ix2 0 j) * l31 dstk gstk x (ix2 0 j) * d1 dstk gstk x (ix2 0 j) - l32 dstk gstk x (ix2 0 j) * l32 dstk gstk x (ix2 0 j) * d2 dstk gstk x (ix2 0 j) = _
  rw [g33_at dstk gstk x D hD hG j, eps_at, l30_at dstk gstk x D hD hG j, d0_at dstk x D hD j, l31_at dstk gstk x D hD hG j, d1_at dstk gstk x D hD hG j, l32_at dstk gstk x D hD hG j, d2_at dstk gstk x D hD hG j]
  simp only [← EReal.coe_mul, ← EReal.coe_sub, ← EReal.coe_add]
  rfl

theorem y3_at : y3 dstk gstk x (ix2 0 j) = Y3 D (col x j) := by
  show b3 dstk gstk x (ix2 0 j) - l30 dstk gstk x (ix2 0 j) * b0 dstk x (ix2 0 j) - l31 dstk gstk x (ix2 0 j) * y1 dstk gstk x (ix2 0 j) - l32 dstk gstk x (ix2 0 j) * y2 dstk gstk x (ix2 0 j) = _
  rw [b3_at dstk gstk x D hD hG j, l30_at dstk gstk x D hD hG j, b0_at dstk x D hD j, l31_at dstk gstk x D hD hG j, y1_at dstk gstk x D hD hG j, l32_at dstk gstk x D hD hG j, y2_at dstk gstk x D hD hG j]
  rfl

theorem z3_at : z3 dstk gstk x (ix2 0 j) = Z3 D (col x j) := by
  show Ideal.div (y3 dstk gstk x (ix2 0 j)) (d3 dstk gstk x (ix2 0 j)) = _
  rw [y3_at dstk gstk x D hD hG j, d3_at dstk gstk x D hD hG j, div_real _ (E3_pos _ _).ne']
  rfl

theorem c32_at : c32 dstk gstk x (ix2 0 j) = C32 D (col x j) := by
  show z2 dstk gstk x (ix2 0 j) - l32 dstk gstk x (ix2 0 j) * z3 dstk gstk x (ix2 0 j) = _
  rw [z2_at dstk gstk x D hD hG j, l32_at dstk gstk x D hD hG j, z3_at dstk gstk x D hD hG j]
  rfl

theorem c31_at : c31 dstk gstk x (ix2 0 j) = C31 D (col x j) := by
  show z1 dstk gstk x (ix2 0 j) - l21 dstk gstk x (ix2 0 j) * c32 dstk gstk x (ix2 0 j) - l31 dstk gstk x (ix2 0 j) * z3 dstk gstk x (ix2 0 j) = _
  rw [z1_at dstk gstk x D hD hG j, l21_at dstk gstk x D hD hG j, c32_at dstk gstk x D hD hG j, l31_at dstk gstk x D hD hG j, z3_at dstk gstk x D hD hG j]
  rfl

theorem c30_at : c30 dstk gstk x (ix2 0 j) = C30 D (col x j) := by
  show z0 dstk x (ix2 0 j) - l10 dstk gstk x (ix2 0 j) * c31 dstk gstk x (ix2 0 j) - l20 dstk gstk x (ix2 0 j) * c32 dstk gstk x (ix2 0 j) - l30 dstk gstk x (ix2 0 j) * z3 dstk gstk x (ix2 0 j) = _
  rw [z0_at dstk x D hD j, l10_at dstk gstk x D hD hG j, c31_at dstk gstk x D hD hG j, l20_at dstk gstk x D hD hG j, c32_at dstk gstk x D hD hG j, l30_at dstk gstk x D hD hG j, z3_at dstk gstk x D hD hG j]
  rfl

end Stages

end Cert.KernelIdeal.Hand

end
-- ==== Proof.KernRes.lean ====
module

public import proofs.«01_k».proof.Proof.KernCol

@[expose] public section

noncomputable section

/-! # What a slab of the kernel stores, entry by entry -/

namespace Cert.KernelIdeal.Hand

open Cert.KernelIdeal.Gen Cert.Omp
open Idealize.ShloMosaic Idealize.ShloMosaic.TcCoe Idealize.ShloMosaic.Tactic

/-! ## The quantiser -/

theorem log_named : Named.named (F := Ideal) κ "log51" (φ := .f32) 0x407BA308#32 = ((Real.log 51 : ℝ) : EReal) :=
  IdealRules.named_const.ideal_named_scalar _ _ _ _ rfl

theorem unitCoef_at (c : FVec Ideal S1x256 .f32) (j : Fin 256) {r : EReal} (h : c (ix2 0 j) = r) :
    unitCoef c (ix2 0 j) = (unit r : EReal) := by
  subst h
  rw [← unit_eq, ← bits_three, ← bits_neg_three]
  pointwise [unitCoef, rowC]

theorem binOf_at (c : FVec Ideal S1x256 .f32) (j : Fin 256) {r : EReal} (h : c (ix2 0 j) = r) :
    binOf c (ix2 0 j) = (((bin r : ℤ) : ℝ) : EReal) := by
  rw [← kernel_bin r (unitCoef_at c j h) log_named, ← bits_fifty, ← bits_half_bins, ← bits_fifteen, ← bits_neg_one]
  generalize hu : unitCoef c = u
  pointwise [binOf, signOf, rowC, rowLog]
  rw [hu]
  rfl

theorem coefOf_at (b : FVec Ideal S1x256 .f32) (j : Fin 256) {n : ℤ} (h : b (ix2 0 j) = ((n : ℝ) : EReal)) :
    coefOf b (ix2 0 j) = (coefQ n : EReal) := by
  have hp : placeOf b (ix2 0 j) = (place n : EReal) := by
    rw [← place_eq, ← h, ← bits_width]
    pointwise [placeOf, rowC]
  rw [← kernel_coef n hp log_named, ← bits_fifty, ← bits_three, ← bits_neg_one]
  generalize hu : placeOf b = u
  pointwise [coefOf, signOf, rowC, rowLog]
  rw [hu]
  rfl

theorem tokOf_at (s : IVec S1x256 32) (b : FVec Ideal S1x256 .f32) (j : Fin 256) (m : Fin 1024) {r : EReal}
    (hs : s (ix2 0 j) = BitVec.ofNat 32 m.val) (h : b (ix2 0 j) = (((bin r : ℤ) : ℝ) : EReal)) :
    tokOf s b (ix2 0 j) = token m r := by
  rw [token, ← word_bin _ (bin_bounds r).1 (bin_bounds r).2, ← hs, ← h]
  pointwise [tokOf]
  rfl

section Stages
variable (dstk : Vec Ideal S512x1024 .bf16) (gstk : Vec Ideal S2048x1024 .bf16) (x : FVec Ideal S256x256 .f32)
  (D : Fin 256 → Fin 1024 → ℝ) (hD : IsDict dstk D) (hG : IsGram gstk D) (j : Fin 256)

include hD in
theorem partOf_at (b : FVec Ideal S1x256 .f32) (s : IVec S1x256 32) (m : Fin 1024) (h : s (ix2 0 j) = BitVec.ofNat 32 m.val)
    {n : ℤ} (hb : b (ix2 0 j) = ((n : ℝ) : EReal)) (c : Fin 256) :
    partOf dstk b (hotOf s) (ix2 c j) = ((D c m * coefQ n : ℝ) : EReal) := by
  have h1 : partOf dstk b (hotOf s) (ix2 c j)
      = coefOf b (ix2 0 j) * (atomHi dstk (hotOf s) (ix2 c j) + atomLo dstk (hotOf s) (ix2 c j)) := by
    rw [partOf]
    generalize coefOf b = t
    generalize atomHi dstk (hotOf s) = p
    generalize atomLo dstk (hotOf s) = q
    pointwise []
  rw [h1, coefOf_at b j hb, atomHi_at dstk D hD j s m h, atomLo_at dstk D hD j s m h, add_zero, ← EReal.coe_mul, mul_comm]

include hD hG

theorem bin0_at : bin0 dstk gstk x (ix2 0 j) = (((bin (C30 D (col x j)) : ℤ) : ℝ) : EReal) := binOf_at _ j (c30_at dstk gstk x D hD hG j)
theorem bin1_at : bin1 dstk gstk x (ix2 0 j) = (((bin (C31 D (col x j)) : ℤ) : ℝ) : EReal) := binOf_at _ j (c31_at dstk gstk x D hD hG j)
theorem bin2_at : bin2 dstk gstk x (ix2 0 j) = (((bin (C32 D (col x j)) : ℤ) : ℝ) : EReal) := binOf_at _ j (c32_at dstk gstk x D hD hG j)
theorem bin3_at : bin3 dstk gstk x (ix2 0 j) = (((bin (Z3 D (col x j)) : ℤ) : ℝ) : EReal) := binOf_at _ j (z3_at dstk gstk x D hD hG j)

theorem recon_at (c : Fin 256) : recon dstk gstk x (ix2 c j) = (Omp.rec D (col x j) c : EReal) := by
  show Ideal.ofBits .f32 0x00000000#32 + partOf dstk (bin0 dstk gstk x) (hotOf (sel0 dstk x)) (ix2 c j)
    + partOf dstk (bin1 dstk gstk x) (hotOf (sel1 dstk gstk x)) (ix2 c j)
    + partOf dstk (bin2 dstk gstk x) (hotOf (sel2 dstk gstk x)) (ix2 c j)
    + partOf dstk (bin3 dstk gstk x) (hotOf (sel3 dstk gstk x)) (ix2 c j) = _
  rw [partOf_at dstk D hD j _ _ _ (sel0_at dstk x D hD j) (bin0_at dstk gstk x D hD hG j),
    partOf_at dstk D hD j _ _ _ (sel1_at dstk gstk x D hD hG j) (bin1_at dstk gstk x D hD hG j),
    partOf_at dstk D hD j _ _ _ (sel2_at dstk gstk x D hD hG j) (bin2_at dstk gstk x D hD hG j),
    partOf_at dstk D hD j _ _ _ (sel3_at dstk gstk x D hD hG j) (bin3_at dstk gstk x D hD hG j),
    Ideal.ofBits_zero .f32, zero_add]
  simp only [← EReal.coe_add]
  rfl

theorem miss_at (c : Fin 256) : subf (recon dstk gstk x) x (ix2 c j) = miss D (col x j) c := by
  rw [miss, ← recon_at dstk gstk x D hD hG, col]
  rfl

theorem slabZ_at (c : Fin 256) : slabZ dstk gstk x (ix2 c j) = x (ix2 c j) + miss D (col x j) c := by
  rw [← miss_at dstk gstk x D hD hG]
  rfl

theorem slabTok_at (k : Fin 4) : slabTok dstk gstk x (ix2 k j) = token (sels D (col x j) k) (coefs D (col x j) k) := by
  have t0 := tokOf_at _ _ j _ (sel0_at dstk x D hD j) (bin0_at dstk gstk x D hD hG j)
  have t1 := tokOf_at _ _ j _ (sel1_at dstk gstk x D hD hG j) (bin1_at dstk gstk x D hD hG j)
  have t2 := tokOf_at _ _ j _ (sel2_at dstk gstk x D hD hG j) (bin2_at dstk gstk x D hD hG j)
  have t3 := tokOf_at _ _ j _ (sel3_at dstk gstk x D hD hG j) (bin3_at dstk gstk x D hD hG j)
  rw [slabTok]
  generalize tokOf (sel0 dstk x) (bin0 dstk gstk x) = a0 at t0 ⊢
  generalize tokOf (sel1 dstk gstk x) (bin1 dstk gstk x) = a1 at t1 ⊢
  generalize tokOf (sel2 dstk gstk x) (bin2 dstk gstk x) = a2 at t2 ⊢
  generalize tokOf (sel3 dstk gstk x) (bin3 dstk gstk x) = a3 at t3 ⊢
  fin_cases k
  · refine Eq.trans ?_ t0; pointwise []
  · refine Eq.trans ?_ t1; pointwise []
  · refine Eq.trans ?_ t2; pointwise []
  · refine Eq.trans ?_ t3; pointwise []

omit j in
theorem slabErr_eq : slabErr dstk gstk x = ∑ c : Fin 256, ∑ j : Fin 256, miss D (col x j) c * miss D (col x j) c := by
  simp only [← miss_at dstk gstk x D hD hG]
  rw [slabErr]
  generalize subf (recon dstk gstk x) x = e
  pointwise []

end Stages

end Cert.KernelIdeal.Hand

end
-- ==== Proof.Norm.lean ====
module

public import proofs.«01_k».proof.Proof.Spec

@[expose] public section

noncomputable section

/-! # The normalised dictionary is real

A column with an infinite entry has an infinite norm, and its quotients are zero; any other column is divided by a
positive real. -/

namespace Cert.Omp

open Idealize.ShloMosaic

/-- An entry of a column over the column's norm. -/
def normal (f : Fin 256 → EReal) (c : Fin 256) : EReal :=
  Ideal.div (f c) (max (Ideal.sqrt (∑ x, f x * f x)) (tiny : EReal))

theorem square_nonneg (a : EReal) : 0 ≤ a * a := by
  induction a using EReal.rec with
  | bot => rw [EReal.bot_mul_bot]; exact le_top
  | top => rw [EReal.top_mul_top]; exact le_top
  | coe r => rw [← EReal.coe_mul]; exact_mod_cast mul_self_nonneg r

theorem square_top (a : EReal) (h : ∀ r : ℝ, a ≠ r) : a * a = ⊤ := by
  induction a using EReal.rec with
  | bot => exact EReal.bot_mul_bot
  | top => exact EReal.top_mul_top
  | coe r => exact absurd rfl (h r)

theorem normal_real (f : Fin 256 → EReal) (c : Fin 256) : normal f c = ((normal f c).toReal : EReal) := by
  suffices h : ∃ r : ℝ, normal f c = (r : EReal) by
    obtain ⟨r, hr⟩ := h; rw [hr, EReal.toReal_coe]
  by_cases h : ∀ i, ∃ r : ℝ, f i = (r : EReal)
  · choose g hg using h
    have hs : ∑ x, f x * f x = ((∑ x, g x * g x : ℝ) : EReal) := by
      rw [coe_sum]; exact Finset.sum_congr rfl fun i _ => by rw [hg, EReal.coe_mul]
    have h0 : ¬ (∑ x, g x * g x) < 0 := not_lt.2 (Finset.sum_nonneg fun i _ => mul_self_nonneg _)
    have hp : 0 < max (Real.sqrt (∑ x, g x * g x)) tiny := lt_max_of_lt_right tiny_pos
    refine ⟨g c / max (Real.sqrt (∑ x, g x * g x)) tiny, ?_⟩
    have hq : Ideal.sqrt ((∑ x, g x * g x : ℝ) : EReal) = (Real.sqrt (∑ x, g x * g x) : EReal) := by
      rw [Ideal.sqrt_coe, if_neg h0]
    have hm : max ((Real.sqrt (∑ x, g x * g x) : ℝ) : EReal) (tiny : EReal)
        = ((max (Real.sqrt (∑ x, g x * g x)) tiny : ℝ) : EReal) := (EReal.coe_strictMono.monotone.map_max).symm
    rw [normal, hs, hq, hm, hg, div_real_real _ hp.ne']
  · push Not at h
    obtain ⟨i, hi⟩ := h
    have hs : ∑ x, f x * f x = ⊤ := by
      refine top_le_iff.1 ?_
      rw [← square_top _ hi]
      exact Finset.single_le_sum (f := fun x => f x * f x) (fun x _ => square_nonneg (f x)) (Finset.mem_univ i)
    refine ⟨0, ?_⟩
    have hq : Ideal.sqrt ⊤ = ⊤ := rfl
    rw [normal, hs, hq, max_eq_left le_top, Ideal.div, if_neg EReal.top_ne_zero, EReal.inv_top, mul_zero]
    rfl

end Cert.Omp

end
-- ==== Proof.Tables.lean ====
module

public import proofs.«01_k».proof.Proof.Pieces
public import proofs.«01_k».proof.Proof.KernRes
public import proofs.«01_k».proof.Proof.Norm
public import Idealize.ShloMosaic.Lib.Pipeline.ValueKit

@[expose] public section

set_option maxRecDepth 16384

noncomputable section

/-! # The kernel's two tables and its blocks, entry by entry -/

namespace Cert.KernelIdeal.Hand

open Cert.KernelIdeal.Gen Cert.Omp
open Idealize.ShloMosaic Idealize.ShloMosaic.TcCoe Idealize.ShloMosaic.Tactic

/-- The normalised dictionary. -/
def atoms (x1 : Vec Ideal S256x1024 .f32) (c : Fin 256) (n : Fin 1024) : ℝ := (normal (fun c => x1 (ix2 c n)) c).toReal

variable (x1 : Vec Ideal S256x1024 .f32)

theorem pay1_at (c : Fin 256) (n : Fin 1024) : k0_pay1 x1 (ix2 c n) = (atoms x1 c n : EReal) := by
  rw [atoms, ← normal_real, normal, ← bits_tiny]
  pointwise [k0_pay1]

theorem pay3_at (c : Fin 256) (n : Fin 1024) : k0_pay3 x1 (ix2 c n) = (atoms x1 c n : EReal) := by
  rw [← pay1_at, k0_pay3, k0_pay2]
  generalize k0_pay1 x1 = t
  pointwise []

theorem pay4_at (c : Fin 256) (n : Fin 1024) : k0_pay4 x1 (ix2 c n) = (0 : EReal) := by
  have h : k0_pay4 x1 (ix2 c n) = k0_pay1 x1 (ix2 c n) - k0_pay1 x1 (ix2 c n) := by
    rw [k0_pay4, k0_pay2]
    generalize k0_pay1 x1 = t
    pointwise []
  rw [h, pay1_at, ← EReal.coe_sub, sub_self, EReal.coe_zero]

theorem pay5_at (i n : Fin 1024) : k0_pay5 x1 (ix2 i n) = (gram (atoms x1) i n : EReal) := by
  have h : k0_pay5 x1 (ix2 i n) = ∑ c : Fin 256, k0_pay1 x1 (ix2 c i) * k0_pay1 x1 (ix2 c n) := by
    rw [k0_pay5, k0_pay2]
    generalize k0_pay1 x1 = t
    pointwise []
  rw [h, gram, coe_sum]
  exact Finset.sum_congr rfl fun c _ => by rw [pay1_at, pay1_at, EReal.coe_mul]

theorem pay7_at (i n : Fin 1024) : k0_pay7 x1 (ix2 i n) = (gram (atoms x1) i n : EReal) := by
  rw [← pay5_at, k0_pay7, k0_pay6]
  generalize k0_pay5 x1 = t
  pointwise []

theorem pay8_at (i n : Fin 1024) : k0_pay8 x1 (ix2 i n) = (0 : EReal) := by
  have h : k0_pay8 x1 (ix2 i n) = k0_pay5 x1 (ix2 i n) - k0_pay5 x1 (ix2 i n) := by
    rw [k0_pay8, k0_pay6]
    generalize k0_pay5 x1 = t
    pointwise []
  rw [h, pay5_at, ← EReal.coe_sub, sub_self, EReal.coe_zero]

theorem dictTab_is : IsDict (dictTab x1) (atoms x1) := by
  refine ⟨fun c n => ?_, fun c n => ?_⟩
  all_goals
    rw [dictTab, piecesDict]
    canon_tiles i h
    all_goals idx_vars i
  · omega
  · obtain rfl : i0 = c := Fin.ext h0.symm
    obtain rfl : i1 = n := Fin.ext h1.symm
    exact pay3_at x1 _ _
  · exact pay4_at x1 _ _
  · omega

theorem gramTab_is : IsGram (gramTab x1) (atoms x1) := by
  refine ⟨fun c n => ?_, fun c n => ?_⟩
  all_goals
    rw [gramTab, piecesGram]
    canon_tiles i h
    all_goals idx_vars i
  · omega
  · obtain rfl : i0 = c := Fin.ext h0.symm
    obtain rfl : i1 = n := Fin.ext h1.symm
    exact pay7_at x1 _ _
  · exact pay8_at x1 _ _
  · omega

/-! ## The blocks -/

section Blocks
variable (x0 : Vec Ideal S1x256x1024 .f32) (dstk : Vec Ideal S512x1024 .bf16) (gstk : Vec Ideal S2048x1024 .bf16)
  (D : Fin 256 → Fin 1024 → ℝ) (hD : IsDict dstk D) (hG : IsGram gstk D)

/-- A signal of a block. -/
def sigB (n : Fin 1024) (c : Fin 256) : EReal := x0 (ix3 0 c n)

theorem xs0_at (c j : Fin 256) : xs0 x0 (ix2 c j) = x0 (ix3 0 c ⟨j.val, by omega⟩) := by pointwise [xs0, mat]
theorem xs1_at (c j : Fin 256) : xs1 x0 (ix2 c j) = x0 (ix3 0 c ⟨256 + j.val, by omega⟩) := by pointwise [xs1, mat]
theorem xs2_at (c j : Fin 256) : xs2 x0 (ix2 c j) = x0 (ix3 0 c ⟨512 + j.val, by omega⟩) := by pointwise [xs2, mat]
theorem xs3_at (c j : Fin 256) : xs3 x0 (ix2 c j) = x0 (ix3 0 c ⟨768 + j.val, by omega⟩) := by pointwise [xs3, mat]

/-- A slab's column is the block's. -/
theorem col_of {x : FVec Ideal S256x256 .f32} {j : Fin 256} {n : Fin 1024} (h : ∀ c, x (ix2 c j) = x0 (ix3 0 c n)) :
    col x j = sigB x0 n := funext h

include hD hG

theorem slabZ_of {x : FVec Ideal S256x256 .f32} {j : Fin 256} {n : Fin 1024} (h : ∀ c, x (ix2 c j) = x0 (ix3 0 c n)) (c : Fin 256) :
    slabZ dstk gstk x (ix2 c j) = x0 (ix3 0 c n) + miss D (sigB x0 n) c := by
  rw [slabZ_at dstk gstk x D hD hG, h, col_of x0 h]

theorem slabTok_of {x : FVec Ideal S256x256 .f32} {j : Fin 256} {n : Fin 1024} (h : ∀ c, x (ix2 c j) = x0 (ix3 0 c n)) (k : Fin 4) :
    slabTok dstk gstk x (ix2 k j) = token (sels D (sigB x0 n) k) (coefs D (sigB x0 n) k) := by
  rw [slabTok_at dstk gstk x D hD hG, col_of x0 h]

theorem zBlk_at (c : Fin 256) (n : Fin 1024) : zBlk x0 dstk gstk (ix3 0 c n) = x0 (ix3 0 c n) + miss D (sigB x0 n) c := by
  rw [zBlk, piecesZ]
  have hc : ∀ (v : FVec Ideal S256x256 .f32) (a : Fin 1) (p q : Fin 256),
      shapeCast S1x256x256 v shapeCasts_S256x256_S1x256x256 (ix3 a p q) = v (ix2 p q) := fun v a p q => by pointwise []
  canon_tiles i h
  all_goals
    idx_vars i
    obtain rfl : i1 = c := Fin.ext h1.symm
    rw [hc]
    refine slabZ_of x0 dstk gstk D hD hG (fun c => ?_) _
  · rw [xs3_at]; congr 2; exact Fin.ext h2.symm
  · rw [xs2_at]; congr 2; exact Fin.ext h2.symm
  · rw [xs1_at]; congr 2; exact Fin.ext h2.symm
  · rw [xs0_at]; congr 2; exact Fin.ext h2.symm

theorem tokBlk_at (k : Fin 4) (n : Fin 1024) :
    tokBlk x0 dstk gstk (ix2 k n) = token (sels D (sigB x0 n) k) (coefs D (sigB x0 n) k) := by
  rw [tokBlk, piecesTok]
  canon_tiles i h
  all_goals
    idx_vars i
    obtain rfl : i0 = k := Fin.ext h0.symm
    refine slabTok_of x0 dstk gstk D hD hG (fun c => ?_) _
  · rw [xs3_at]; congr 2; exact Fin.ext h1.symm
  · rw [xs2_at]; congr 2; exact Fin.ext h1.symm
  · rw [xs1_at]; congr 2; exact Fin.ext h1.symm
  · rw [xs0_at]; congr 2; exact Fin.ext h1.symm

omit hD hG in
theorem sum_slabs (f : Fin 1024 → EReal) : ∑ n, f n = ∑ j : Fin 256, f ⟨j.val, by omega⟩ + ∑ j : Fin 256, f ⟨256 + j.val, by omega⟩
    + ∑ j : Fin 256, f ⟨512 + j.val, by omega⟩ + ∑ j : Fin 256, f ⟨768 + j.val, by omega⟩ := by
  rw [show ∑ n, f n = ∑ n : Fin (256 + 256 + 256 + 256), f n from rfl, Fin.sum_univ_add, Fin.sum_univ_add, Fin.sum_univ_add]
  rfl

theorem slabErr_of {x : FVec Ideal S256x256 .f32} (g : Fin 256 → Fin 1024) (h : ∀ c j, x (ix2 c j) = x0 (ix3 0 c (g j))) :
    slabErr dstk gstk x = ∑ c : Fin 256, ∑ j, miss D (sigB x0 (g j)) c * miss D (sigB x0 (g j)) c := by
  rw [slabErr_eq dstk gstk x D hD hG]
  simp only [fun j => col_of x0 (fun c => h c j)]

theorem blockErr_eq : blockErr x0 dstk gstk = ∑ c : Fin 256, ∑ n : Fin 1024, miss D (sigB x0 n) c * miss D (sigB x0 n) c := by
  simp only [sum_slabs, Finset.sum_add_distrib]
  rw [blockErr, slabErr_of x0 dstk gstk D hD hG _ (xs0_at x0), slabErr_of x0 dstk gstk D hD hG _ (xs1_at x0),
    slabErr_of x0 dstk gstk D hD hG _ (xs2_at x0), slabErr_of x0 dstk gstk D hD hG _ (xs3_at x0)]
  rfl

end Blocks

end Cert.KernelIdeal.Hand

end
-- ==== Proof.Value.lean ====
module

public import proofs.«01_k».proof.Proof.Frame
public import proofs.«01_k».proof.Proof.Tables
public import Idealize.ShloMosaic.Lib.Pipeline.ValueKit

@[expose] public section

set_option maxRecDepth 16384

noncomputable section

namespace Cert.KernelIdeal.Hand

open Cert.KernelIdeal.Gen Cert.Omp
open Idealize.ShloMosaic Idealize.ShloMosaic.TcCoe Idealize.ShloMosaic.Tactic

variable (m : (ℓ : Loc nD τ sig) → Buf (Elt Ideal) ℓ) (c : Dev nD)

/-- The input, -/
def zIn : Vec Ideal S8x256x32x32 .f32 := m ((c.tc : Thread nD τ).loc main_arg0)
/-- the dictionary, -/
def dIn : Vec Ideal S256x1024 .f32 := m ((c.tc : Thread nD τ).loc main_arg1)
/-- and the signal that sits at a place of a batch. -/
def pixel (z : Vec Ideal S8x256x32x32 .f32) (b : Fin 8) (n : Fin 1024) (k : Fin 256) : EReal :=
  z (ix4 b k ⟨n.val / 32, by omega⟩ ⟨n.val % 32, by omega⟩)

theorem idx : ∀ t : Fin cfg0.N, win0_0.index t = ![t.val, 0, 0] ∧ win0_1.index t = ![0, 0] ∧ win0_2.index t = ![t.val, 0, 0]
    ∧ win0_3.index t = ![0, t.val] ∧ win0_4.index t = ![0, 0] :=
  (by decide +kernel : ∀ t : Fin grid0.N, win0_0.index t = ![t.val, 0, 0] ∧ win0_1.index t = ![0, 0] ∧ win0_2.index t = ![t.val, 0, 0]
    ∧ win0_3.index t = ![0, t.val] ∧ win0_4.index t = ![0, 0])

/-- The batch of a point. -/
def batch (t : Fin cfg0.N) : Fin 8 := ⟨t.val, lt_of_lt_of_eq t.isLt N_0⟩

theorem dict_blk : dictBlk m c = dIn m c := by
  funext y
  idx_vars y
  unfold dictBlk dIn
  blk_ext [iblk, V, idx pt0]

/-- The region finds the input with its two image axes run together. -/
theorem entry_z : V m c main_v0 = shapeCast S8x256x1024 (zIn m c) shapeCasts_S8x256x32x32_S8x256x1024 := by
  unfold V V0
  simp only [hostOps0, List.flatten_cons, List.flatten_nil, List.append_nil]
  after_results
  rfl

theorem sig_blk (t : Fin cfg0.N) (k : Fin 256) (n : Fin 1024) :
    (iblk m c 0 t : Vec Ideal S1x256x1024 .f32) (ix3 0 k n) = pixel (zIn m c) (batch t) n k := by
  have e : (iblk m c 0 t : Vec Ideal S1x256x1024 .f32) (ix3 0 k n) = (V m c main_v0 : Vec Ideal S8x256x1024 .f32) (ix3 (batch t) k n) := by
    unfold batch
    blk_ext [iblk, idx t]
  rw [e, entry_z]
  unfold pixel
  pointwise []

/-- What the region leaves, as the host operations after it find it. -/
def exit : Valuation τ sig (Elt Ideal) := Pipeline.withArrays (cfgs 0).spec c (V0 m c) fun w => (dats m 0 c).arrAt w (cfgs 0).N
theorem exit_arr (w : Fin cfg0.W) : exit m c (Proc.devRef .tc (Pipeline.arrRef spec0 w)) = (dats m 0 c).arrAt w cfg0.N :=
  Pipeline.withArrays_arr spec0 (by decide) c (V0 m c) _ w

theorem tail_z : Pipeline.afterTail₀ cfgs (dats m) 0 (V0 m) [hostOps1] c main_v2
    = shapeCast S8x256x32x32 ((dats m 0 c).arrAt 2 cfg0.N : Vec Ideal S8x256x1024 .f32) shapeCasts_S8x256x1024_S8x256x32x32 := by
  rw [← exit_arr]
  show StableHlo.after _ (exit m c) _ = _
  generalize exit m c = E
  simp only [hostOps1, List.flatten_cons, List.flatten_nil, List.append_nil]
  after_results
  rfl

theorem tail_tok : Pipeline.afterTail₀ cfgs (dats m) 0 (V0 m) [hostOps1] c main_v4
    = shapeCast S8x32x32x4 (transpose S8192x4 [1, 0] ((dats m 0 c).arrAt 3 cfg0.N : Vec Ideal S4x8192 .i32) transposes_S4x8192_S8192x4_1_0)
        shapeCasts_S8192x4_S8x32x32x4 := by
  rw [← exit_arr]
  show StableHlo.after _ (exit m c) _ = _
  generalize exit m c = E
  simp only [hostOps1, List.flatten_cons, List.flatten_nil, List.append_nil]
  after_results
  rfl

theorem tail_loss : Pipeline.afterTail₀ cfgs (dats m) 0 (V0 m) [hostOps1] c main_v5
    = shapeCast S_ ((dats m 0 c).arrAt 4 cfg0.N : Vec Ideal S1x1 .f32) shapeCasts_S1x1_S_ := by
  rw [← exit_arr]
  show StableHlo.after _ (exit m c) _ = _
  generalize exit m c = E
  simp only [hostOps1, List.flatten_cons, List.flatten_nil, List.append_nil]
  after_results
  rfl

/-- The dictionary's normalised columns. -/
def DD : Fin 256 → Fin 1024 → ℝ := atoms (dIn m c)

theorem sigB_blk (t : Fin cfg0.N) (n : Fin 1024) : sigB (iblk m c 0 t) n = pixel (zIn m c) (batch t) n :=
  funext fun k => sig_blk m c t k n

theorem isDict : IsDict (dictTab (dictBlk m c)) (DD m c) := by rw [dict_blk]; exact dictTab_is _
theorem isGram : IsGram (gramTab (dictBlk m c)) (DD m c) := by rw [dict_blk]; exact gramTab_is _

/-! ## The arrays after the run -/

/-- The quantised signals. -/
def arrZ : Vec Ideal S8x256x1024 .f32 := fun i =>
  pixel (zIn m c) (i 0) (i 2) (i 1) + miss (DD m c) (pixel (zIn m c) (i 0) (i 2)) (i 1)
/-- The tokens. -/
def arrTok : Vec Ideal S4x8192 .i32 := fun i =>
  let x := pixel (zIn m c) (⟨(i 1).val / 1024, by have := (i 1).isLt; change (i 1).val < 8192 at this; omega⟩) ⟨(i 1).val % 1024, by omega⟩
  token (sels (DD m c) x (i 0)) (coefs (DD m c) x (i 0))

theorem arr_z : (dats m 0 c).arrAt 2 cfg0.N = arrZ m c := by
  refine (dats m 0 c).arrAt_eq_of_covers 2 _ (by decide +kernel) fun t _ y => ?_
  blk_simp
  rw [after0_2]
  idx_vars y
  obtain rfl : y0 = 0 := Subsingleton.elim _ _
  have e : ((View.whole main_v1_0).slice (win0_2.rect t)).emb (ix3 0 y1 y2) = ix3 (batch t) y1 y2 := by
    unfold batch
    blk_ext [idx t]
  rw [e, zBlk_at _ _ _ _ (isDict m c) (isGram m c), sigB_blk, sig_blk]
  rfl

theorem arr_tok : (dats m 0 c).arrAt 3 cfg0.N = arrTok m c := by
  refine (dats m 0 c).arrAt_eq_of_covers 3 _ (by decide +kernel) fun t _ y => ?_
  blk_simp
  rw [after0_3]
  idx_vars y
  have hb : (batch t).val < 8 := (batch t).isLt
  have e : ((View.whole main_v1_1).slice (win0_3.rect t)).emb (ix2 y0 y1) = ix2 y0 ⟨(batch t).val * 1024 + y1.val, by omega⟩ := by
    unfold batch
    blk_ext [idx t]
  rw [e, tokBlk_at _ _ _ _ (isDict m c) (isGram m c), sigB_blk]
  have h1 : ((batch t).val * 1024 + y1.val) / 1024 = (batch t).val := by omega
  have h2 : ((batch t).val * 1024 + y1.val) % 1024 = y1.val := by omega
  simp only [arrTok, ix2_0, ix2_1, h1, h2]

theorem arr_loss : (dats m 0 c).arrAt 4 cfg0.N = (lossAt m c 7 (lt_of_lt_of_eq (by decide) N_0.symm) : Vec Ideal S1x1 .f32) := by
  refine (dats m 0 c).arrAt_eq_of_after_last 4 t0_7 (by decide +kernel) _ fun j => ?_
  blk_simp
  rw [after0_4]
  rfl

end Cert.KernelIdeal.Hand

end
-- ==== Proof.RefSlab.lean ====
module

public import proofs.«01_k».proof.Proof.Gen.ReferenceIdeal.Read
public import Idealize.ShloMosaic.Lib.Tactic

@[expose] public section

set_option maxRecDepth 65536

noncomputable section

/-! # The reference, stage by stage

The reference's operations, gathered into the stages they are copies of. Every stage holds one entry or one column for
each of the 8192 signals. -/

namespace Cert.ReferenceIdeal.Hand

open Cert.ReferenceIdeal.Gen
open Idealize.ShloMosaic Idealize.ShloMosaic.TcCoe Idealize.ShloMosaic.Tactic

variable {F : FTy → Type} [FloatOps F]

/-! ## The pieces every stage is made of -/

/-- One number for every signal. -/
def rowC (b : BitVec 32) : FVec F S8192 .f32 := broadcastInDim S8192 ![] bcast_S_S8192 (constant S_ .f32 b)

/-- A row under every atom. -/
def under {α : Type} (v : S8192.Idx → α) : S1024x8192.Idx → α :=
  broadcastInDim S1024x8192 ![0, 1] bcast_S1x8192_S1024x8192_0_1 (broadcastInDim S1x8192 ![1] bcast_S8192_S1x8192_1 v)

/-- A row under every channel. -/
def underC {α : Type} (v : S8192.Idx → α) : S256x8192.Idx → α :=
  broadcastInDim S256x8192 ![0, 1] bcast_S1x8192_S256x8192_0_1 (broadcastInDim S1x8192 ![1] bcast_S8192_S1x8192_1 v)

/-- The atom's number at every entry. -/
def iotaN : IVec S1024x8192 32 :=
  broadcastInDim S1024x8192 ![0, 1] bcast_S1024x1_S1024x8192_0_1
    (broadcastInDim S1024x1 ![0] bcast_S1024_S1024x1_0 (iotaInDim S1024 32 0))

/-- Magnitudes, with the atoms already taken set to minus infinity. -/
def absMasked (mask : IVec S1024x8192 1) (corr : FVec F S1024x8192 .f32) : FVec F S1024x8192 .f32 :=
  select mask (broadcastInDim S1024x8192 ![] bcast_S_S1024x8192 (id (constant S_ .f32 0xFF800000#32))) (Host.absf corr)

/-- The largest entry of every column. -/
def maxOf (a : FVec F S1024x8192 .f32) : FVec F S8192 .f32 :=
  Host.reduce FloatOps.maximumf a (constant S_ .f32 0xFF800000#32) reducesTo_S1024x8192_S8192_d0 h_S_

/-- The first atom of largest magnitude for every signal. -/
def selOf (a : FVec F S1024x8192 .f32) : IVec S8192 32 :=
  Host.reduce IntOp.minsi (select (cmpf .oeq a (under (maxOf a))) iotaN
    (broadcastInDim S1024x8192 ![] bcast_S_S1024x8192 (id (constantI S_ 32 1024#32)))) (constantI S_ 32 2147483647#32)
    reducesTo_S1024x8192_S8192_d0 h_S_

/-- Where an atom is the selected one. -/
def hotOf (sel : IVec S8192 32) : IVec S1024x8192 1 := cmpi .eq iotaN (under sel)

/-- A row of indices as a column. -/
def colOf (a : IVec S8192 32) : IVec S8192x1 32 := broadcastInDim S8192x1 ![0] bcast_S8192_S8192x1_0 a

/-- Two rows of indices as pairs. -/
def pairOf (a b : IVec S8192 32) : IVec S8192x2 32 :=
  concatenate S8192x2 1 [⟨S8192x1, colOf a⟩, ⟨S8192x1, colOf b⟩] concatenates_S8192x1_S8192x1_S8192x2_d1

/-- The entry of a table of correlations at each signal's atom. -/
def takeA (t : FVec F S1024x8192 .f32) (a : IVec S8192 32) : FVec F S8192 .f32 :=
  Host.gather gather_S1024x8192_S8192x2_S8192_n_01_n_n_01_1_11 t (pairOf a (iotaInDim S8192 32 0))

/-- The entry of the Gram table at each signal's two atoms. -/
def takeG (g : FVec F S1024x1024 .f32) (a b : IVec S8192 32) : FVec F S8192 .f32 :=
  Host.gather gather_S1024x1024_S8192x2_S8192_n_01_n_n_01_1_11 g (pairOf a b)

/-- The column of the Gram table at each signal's atom, times the signal's coefficient. -/
def partG (g : FVec F S1024x1024 .f32) (a : IVec S8192 32) (c : FVec F S8192 .f32) : FVec F S1024x8192 .f32 :=
  mulf (Host.gather gather_S1024x1024_S8192x1_S1024x8192_0_1_n_n_1_1_10241 g (colOf a)) (under c)

/-- Each signal's atom times its coefficient. -/
def partD (d : FVec F S256x1024 .f32) (a : IVec S8192 32) (c : FVec F S8192 .f32) : FVec F S256x8192 .f32 :=
  mulf (Host.gather gather_S256x1024_S8192x1_S256x8192_0_1_n_n_1_1_2561 d (colOf a)) (underC c)

/-- One number for every bin. -/
def fill (b : BitVec 32) : FVec F S4x8192 .f32 := broadcastInDim S4x8192 ![] bcast_S_S4x8192 (constant S_ .f32 b)

/-- Rows of coefficients, one above the other. -/
def stackF (a b c d : FVec F S8192 .f32) : FVec F S4x8192 .f32 :=
  concatenate S4x8192 0 [⟨S1x8192, broadcastInDim S1x8192 ![1] bcast_S8192_S1x8192_1 a⟩,
    ⟨S1x8192, broadcastInDim S1x8192 ![1] bcast_S8192_S1x8192_1 b⟩, ⟨S1x8192, broadcastInDim S1x8192 ![1] bcast_S8192_S1x8192_1 c⟩,
    ⟨S1x8192, broadcastInDim S1x8192 ![1] bcast_S8192_S1x8192_1 d⟩] concatenates_S1x8192_S1x8192_S1x8192_S1x8192_S4x8192_d0

/-- Rows of atoms, one above the other. -/
def stackI (a b c d : IVec S8192 32) : IVec S4x8192 32 :=
  concatenate S4x8192 0 [⟨S1x8192, broadcastInDim S1x8192 ![1] bcast_S8192_S1x8192_1 a⟩,
    ⟨S1x8192, broadcastInDim S1x8192 ![1] bcast_S8192_S1x8192_1 b⟩, ⟨S1x8192, broadcastInDim S1x8192 ![1] bcast_S8192_S1x8192_1 c⟩,
    ⟨S1x8192, broadcastInDim S1x8192 ![1] bcast_S8192_S1x8192_1 d⟩] concatenates_S1x8192_S1x8192_S1x8192_S1x8192_S4x8192_d0

/-! ## The quantiser -/

/-- One over log 51. -/
def invLog : FVec F S_ .f32 := Host.divf (constant S_ .f32 0x3F800000#32) (Host.log1p (constant S_ .f32 0x42480000#32))

/-- Coefficients clipped and scaled to the unit interval. -/
def unitCoef (c : FVec F S4x8192 .f32) : FVec F S4x8192 .f32 :=
  Host.divf (minimumf (broadcastInDim S4x8192 ![] bcast_S_S4x8192 (id (constant S_ .f32 0x40400000#32)))
    (maximumf (broadcastInDim S4x8192 ![] bcast_S_S4x8192 (id (constant S_ .f32 0xC0400000#32))) c)) (fill 0x40400000#32)

/-- The bins. -/
def binOf (c : FVec F S4x8192 .f32) : IVec S4x8192 32 :=
  minsi (broadcastInDim S4x8192 ![] bcast_S_S4x8192 (id (constantI S_ 32 15#32)))
    (maxsi (broadcastInDim S4x8192 ![] bcast_S_S4x8192 (id (constantI S_ 32 0#32)))
      (fptosi 32 (Host.roundeven (mulf (addf (mulf (mulf (Host.sign (unitCoef c))
        (Host.log1p (mulf (Host.absf (unitCoef c)) (fill 0x42480000#32))))
        (broadcastInDim S4x8192 ![] bcast_S_S4x8192 invLog)) (fill 0x3F800000#32)) (fill 0x40F00000#32)))))

/-- The bins' places in the unit interval. -/
def placeOf (b : IVec S4x8192 32) : FVec F S4x8192 .f32 :=
  subf (mulf (sitofp .f32 b) (fill 0x3E088889#32)) (fill 0x3F800000#32)

/-- The coefficients that bins stand for. -/
def coefOf (b : IVec S4x8192 32) : FVec F S4x8192 .f32 :=
  mulf (mulf (Host.sign (placeOf b)) (Host.divf (Host.expm1 (Host.divf (Host.absf (placeOf b))
    (broadcastInDim S4x8192 ![] bcast_S_S4x8192 invLog))) (fill 0x42480000#32))) (fill 0x40400000#32)

/-! ## The stages -/

section Tables
variable (x0 : FVec F S8x256x32x32 .f32) (x1 : FVec F S256x1024 .f32)

/-- The signals as columns. -/
def sig : FVec F S256x8192 .f32 :=
  transpose S256x8192 [1, 0] (shapeCast S8192x256
    (transpose S8x32x32x256 [0, 2, 3, 1] x0 transposes_S8x256x32x32_S8x32x32x256_0_2_3_1)
    shapeCasts_S8x32x32x256_S8192x256) transposes_S8192x256_S256x8192_1_0

/-- The normalised dictionary. -/
def dict : FVec F S256x1024 .f32 :=
  Host.divf x1 (broadcastInDim S256x1024 ![0, 1] bcast_S1x1024_S256x1024_0_1
    (maximumf (Host.sqrt (broadcastInDim S1x1024 ![1] bcast_S1024_S1x1024_1
      (Host.reduceAdd (mulf x1 x1) (constant S_ .f32 0x00000000#32) reducesTo_S256x1024_S1024_d0 h_S_)))
      (broadcastInDim S1x1024 ![] bcast_S_S1x1024 (constant S_ .f32 0x2EDBE6FF#32))))

end Tables

section Stages
variable (d : FVec F S256x1024 .f32) (x : FVec F S256x8192 .f32)

/-- The Gram table. -/
def gramT : FVec F S1024x1024 .f32 :=
  Host.dotGeneral dot_S1024x256_S256x1024_S1024x1024_1_0_0_1_n_n none
    (transpose S1024x256 [1, 0] d transposes_S256x1024_S1024x256_1_0) d

def alpha : FVec F S1024x8192 .f32 :=
  Host.dotGeneral dot_S1024x256_S256x8192_S1024x8192_1_0_0_1_n_n none
    (transpose S1024x256 [1, 0] d transposes_S256x1024_S1024x256_1_0) x

def noMask : IVec S1024x8192 1 := broadcastInDim S1024x8192 ![] bcast_S_S1024x8192 (constantI S_ 1 0#1)

def sel0 : IVec S8192 32 := selOf (absMasked noMask (alpha d x))
def mask0 : IVec S1024x8192 1 := ori noMask (hotOf (sel0 d x))
def b0 : FVec F S8192 .f32 := takeA (alpha d x) (sel0 d x)
def d0 : FVec F S8192 .f32 := addf (takeG (gramT d) (sel0 d x) (sel0 d x)) (rowC 0x322BCC77#32)
def z0 : FVec F S8192 .f32 := Host.divf (b0 d x) (d0 d x)
def corr1 : FVec F S1024x8192 .f32 := subf (alpha d x) (partG (gramT d) (sel0 d x) (z0 d x))

def sel1 : IVec S8192 32 := selOf (absMasked (mask0 d x) (corr1 d x))
def mask1 : IVec S1024x8192 1 := ori (mask0 d x) (hotOf (sel1 d x))
def b1 : FVec F S8192 .f32 := takeA (alpha d x) (sel1 d x)
def u01 : FVec F S8192 .f32 := takeG (gramT d) (sel0 d x) (sel1 d x)
def l10 : FVec F S8192 .f32 := Host.divf (takeG (gramT d) (sel1 d x) (sel0 d x)) (d0 d x)
def a11 : FVec F S8192 .f32 := addf (takeG (gramT d) (sel1 d x) (sel1 d x)) (rowC 0x322BCC77#32)
def d1 : FVec F S8192 .f32 := subf (a11 d x) (mulf (l10 d x) (u01 d x))
def y1 : FVec F S8192 .f32 := subf (b1 d x) (mulf (l10 d x) (b0 d x))
def z1 : FVec F S8192 .f32 := Host.divf (y1 d x) (d1 d x)
def c10 : FVec F S8192 .f32 := Host.divf (subf (b0 d x) (mulf (u01 d x) (z1 d x))) (d0 d x)
def corr2 : FVec F S1024x8192 .f32 :=
  subf (alpha d x) (addf (partG (gramT d) (sel0 d x) (c10 d x)) (partG (gramT d) (sel1 d x) (z1 d x)))

def sel2 : IVec S8192 32 := selOf (absMasked (mask1 d x) (corr2 d x))
def mask2 : IVec S1024x8192 1 := ori (mask1 d x) (hotOf (sel2 d x))
def b2 : FVec F S8192 .f32 := takeA (alpha d x) (sel2 d x)
def u02 : FVec F S8192 .f32 := takeG (gramT d) (sel0 d x) (sel2 d x)
def u12 : FVec F S8192 .f32 := subf (takeG (gramT d) (sel1 d x) (sel2 d x)) (mulf (l10 d x) (u02 d x))
def l20 : FVec F S8192 .f32 := Host.divf (takeG (gramT d) (sel2 d x) (sel0 d x)) (d0 d x)
def l21 : FVec F S8192 .f32 :=
  Host.divf (subf (takeG (gramT d) (sel2 d x) (sel1 d x)) (mulf (l20 d x) (u01 d x))) (d1 d x)
def a22 : FVec F S8192 .f32 := addf (takeG (gramT d) (sel2 d x) (sel2 d x)) (rowC 0x322BCC77#32)
def d2 : FVec F S8192 .f32 := subf (subf (a22 d x) (mulf (l20 d x) (u02 d x))) (mulf (l21 d x) (u12 d x))
def y2 : FVec F S8192 .f32 := subf (subf (b2 d x) (mulf (l20 d x) (b0 d x))) (mulf (l21 d x) (y1 d x))
def z2 : FVec F S8192 .f32 := Host.divf (y2 d x) (d2 d x)
def c21 : FVec F S8192 .f32 := Host.divf (subf (y1 d x) (mulf (u12 d x) (z2 d x))) (d1 d x)
def c20 : FVec F S8192 .f32 :=
  Host.divf (subf (subf (b0 d x) (mulf (u01 d x) (c21 d x))) (mulf (u02 d x) (z2 d x))) (d0 d x)
def corr3 : FVec F S1024x8192 .f32 :=
  subf (alpha d x) (addf (addf (partG (gramT d) (sel0 d x) (c20 d x)) (partG (gramT d) (sel1 d x) (c21 d x)))
    (partG (gramT d) (sel2 d x) (z2 d x)))

def sel3 : IVec S8192 32 := selOf (absMasked (mask2 d x) (corr3 d x))
def b3 : FVec F S8192 .f32 := takeA (alpha d x) (sel3 d x)
def u03 : FVec F S8192 .f32 := takeG (gramT d) (sel0 d x) (sel3 d x)
def u13 : FVec F S8192 .f32 := subf (takeG (gramT d) (sel1 d x) (sel3 d x)) (mulf (l10 d x) (u03 d x))
def u23 : FVec F S8192 .f32 :=
  subf (subf (takeG (gramT d) (sel2 d x) (sel3 d x)) (mulf (l20 d x) (u03 d x))) (mulf (l21 d x) (u13 d x))
def l30 : FVec F S8192 .f32 := Host.divf (takeG (gramT d) (sel3 d x) (sel0 d x)) (d0 d x)
def l31 : FVec F S8192 .f32 :=
  Host.divf (subf (takeG (gramT d) (sel3 d x) (sel1 d x)) (mulf (l30 d x) (u01 d x))) (d1 d x)
def l32 : FVec F S8192 .f32 :=
  Host.divf (subf (subf (takeG (gramT d) (sel3 d x) (sel2 d x)) (mulf (l30 d x) (u02 d x))) (mulf (l31 d x) (u12 d x)))
    (d2 d x)
def a33 : FVec F S8192 .f32 := addf (takeG (gramT d) (sel3 d x) (sel3 d x)) (rowC 0x322BCC77#32)
def d3 : FVec F S8192 .f32 :=
  subf (subf (subf (a33 d x) (mulf (l30 d x) (u03 d x))) (mulf (l31 d x) (u13 d x))) (mulf (l32 d x) (u23 d x))
def y3 : FVec F S8192 .f32 :=
  subf (subf (subf (b3 d x) (mulf (l30 d x) (b0 d x))) (mulf (l31 d x) (y1 d x))) (mulf (l32 d x) (y2 d x))
def z3 : FVec F S8192 .f32 := Host.divf (y3 d x) (d3 d x)
def c32 : FVec F S8192 .f32 := Host.divf (subf (y2 d x) (mulf (u23 d x) (z3 d x))) (d2 d x)
def c31 : FVec F S8192 .f32 :=
  Host.divf (subf (subf (y1 d x) (mulf (u12 d x) (c32 d x))) (mulf (u13 d x) (z3 d x))) (d1 d x)
def c30 : FVec F S8192 .f32 :=
  Host.divf (subf (subf (subf (b0 d x) (mulf (u01 d x) (c31 d x))) (mulf (u02 d x) (c32 d x))) (mulf (u03 d x) (z3 d x)))
    (d0 d x)

/-- The bins of every signal. -/
def bins : IVec S4x8192 32 := binOf (stackF (c30 d x) (c31 d x) (c32 d x) (z3 d x))

/-- A row of a table of four. -/
def rowOf (k : Fin 2 → Nat) (h : S4x8192.Slices k S1x8192) (t : FVec F S4x8192 .f32) : FVec F S8192 .f32 :=
  shapeCast S8192 (extractStridedSlice S1x8192 k t h) shapeCasts_S1x8192_S8192

/-- The quantised reconstruction. -/
def recon : FVec F S256x8192 .f32 :=
  addf (addf (addf (partD d (sel0 d x) (rowOf ![0, 0] slices_S4x8192_S1x8192_0_0 (coefOf (bins d x))))
    (partD d (sel1 d x) (rowOf ![1, 0] slices_S4x8192_S1x8192_1_0 (coefOf (bins d x)))))
    (partD d (sel2 d x) (rowOf ![2, 0] slices_S4x8192_S1x8192_2_0 (coefOf (bins d x)))))
    (partD d (sel3 d x) (rowOf ![3, 0] slices_S4x8192_S1x8192_3_0 (coefOf (bins d x))))

/-- The reconstruction in the input's layout. -/
def reconT : FVec F S8x256x32x32 .f32 :=
  transpose S8x256x32x32 [0, 3, 1, 2] (shapeCast S8x32x32x256
    (transpose S8192x256 [1, 0] (recon d x) transposes_S256x8192_S8192x256_1_0) shapeCasts_S8192x256_S8x32x32x256)
    transposes_S8x32x32x256_S8x256x32x32_0_3_1_2

/-- The tokens. -/
def toks : IVec S8x32x32x4 32 :=
  shapeCast S8x32x32x4 (transpose S8192x4 [1, 0] (addi (muli (stackI (sel0 d x) (sel1 d x) (sel2 d x) (sel3 d x))
    (broadcastInDim S4x8192 ![] bcast_S_S4x8192 (constantI S_ 32 16#32))) (bins d x)) transposes_S4x8192_S8192x4_1_0)
    shapeCasts_S8192x4_S8x32x32x4

end Stages

/-- The mean of squared errors. -/
def meanSq (e : FVec F S8x256x32x32 .f32) : FVec F S_ .f32 :=
  Host.divf (Host.reduceAdd (mulf e e) (constant S_ .f32 0x00000000#32) reducesTo_S8x256x32x32_S_d0_1_2_3 h_S_)
    (constant S_ .f32 0x4A000000#32)

section Results
variable (x0 : FVec F S8x256x32x32 .f32) (x1 : FVec F S256x1024 .f32)

def resZ : FVec F S8x256x32x32 .f32 := addf x0 (subf (reconT (dict x1) (sig x0)) x0)
def resLoss : FVec F S_ .f32 :=
  addf (meanSq (subf (reconT (dict x1) (sig x0)) x0))
    (mulf (constant S_ .f32 0x3E800000#32) (meanSq (subf (reconT (dict x1) (sig x0)) x0)))
def resTok : IVec S8x32x32x4 32 := toks (dict x1) (sig x0)

theorem read_sel0 : Read.val_main_v28 (F := F) x0 x1 = sel0 (dict x1) (sig x0) := by sl_kernel_rfl
theorem read_Z : Read.val_main_v398 (F := F) x0 x1 = resZ x0 x1 := by sl_kernel_rfl
theorem read_Loss : Read.val_main_v386 (F := F) x0 x1 = resLoss x0 x1 := by sl_kernel_rfl
theorem read_Tok : Read.val_main_v396 (F := F) x0 x1 = resTok x0 x1 := by sl_kernel_rfl

end Results

end Cert.ReferenceIdeal.Hand

end
-- ==== Proof.Gather.lean ====
module

public import proofs.«01_k».proof.Proof.RefSlab
public import proofs.«01_k».proof.Proof.Spec

@[expose] public section

set_option maxRecDepth 16384

noncomputable section

/-! # The reference's look-ups, read at a signal -/

namespace Cert.ReferenceIdeal.Hand

open Cert.ReferenceIdeal.Gen
open Idealize.ShloMosaic Idealize.ShloMosaic.TcCoe Idealize.ShloMosaic.Tactic

/-- Dimension numbers of a look-up of one entry by a pair of indices. -/
abbrev pairDims (N M K : Nat)
    (wf : GatherDims.WF ⟨2, ![N, M]⟩ ⟨2, ![K, 2]⟩ ⟨1, ![K]⟩ [] [0, 1] [] [0, 1] [] 1 ![1, 1]) :
    GatherDims ⟨2, ![N, M]⟩ ⟨2, ![K, 2]⟩ ⟨1, ![K]⟩ where
  offsetDims := []
  collapsedSliceDims := [0, 1]
  operandBatchingDims := []
  startIndicesBatchingDims := []
  startIndexMap := [0, 1]
  indexVectorDim := 1
  sliceSizes := ![1, 1]
  wf := wf

/-- Dimension numbers of a look-up of whole columns. -/
abbrev colDims (N M K : Nat)
    (wf : GatherDims.WF ⟨2, ![N, M]⟩ ⟨2, ![K, 1]⟩ ⟨2, ![N, K]⟩ [0] [1] [] [1] [] 1 ![N, 1]) :
    GatherDims ⟨2, ![N, M]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- A word that holds a small number, read signed. -/
theorem toInt_small (n : Nat) (h : n < 8192) : (BitVec.ofNat 32 n).toInt.toNat = n := by
  rw [BitVec.toInt_ofNat', Int.bmod_eq_of_le] <;> omega

theorem pair_apply {α : Type} {N M K : Nat} (hN : N ≤ 8192) (hM : M ≤ 8192)
    (wf : GatherDims.WF ⟨2, ![N, M]⟩ ⟨2, ![K, 2]⟩ ⟨1, ![K]⟩ [] [0, 1] [] [0, 1] [] 1 ![1, 1])
    (t : (⟨2, ![N, M]⟩ : Shape).Idx → α) (idx : IVec ⟨2, ![K, 2]⟩ 32) (j : Fin K) (n : Fin N) (m : Fin M)
    (h0 : idx (ix2 j 0) = BitVec.ofNat 32 n.val) (h1 : idx (ix2 j 1) = BitVec.ofNat 32 m.val) :
    Host.gather (pairDims N M K wf) t idx (ix1 j) = t (ix2 n m) := by
  unfold Host.gather
  congr 1
  funext a
  refine Fin.ext ?_
  show (pairDims N M K wf).start (ix1 j) idx a + (pairDims N M K wf).batchCoord (ix1 j) a
    + (pairDims N M K wf).offCoord (ix1 j) a = _
  have hmem : a ∈ (pairDims N M K wf).startIndexMap := by fin_cases a <;> simp
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  have hn := n.isLt
  have hm := m.isLt
  match a with
  | ⟨0, _⟩ =>
    have hsi : ∀ h, (pairDims N M K wf).siIdx (ix1 j) ⟨List.idxOf (0 : Fin 2) (pairDims N M K wf).startIndexMap, h⟩
        = ix2 j 0 := fun h => by
      funext b; refine Fin.ext ?_
      match b with
      | ⟨0, _⟩ => rfl
      | ⟨1, _⟩ => rfl
    show min (idx ((pairDims N M K wf).siIdx (ix1 j) ⟨List.idxOf (0 : Fin 2) (pairDims N M K wf).startIndexMap, _⟩)).toInt.toNat
      (N - 1) = n.val
    rw [hsi, h0, toInt_small _ (by omega)]; omega
  | ⟨1, _⟩ =>
    have hsi : ∀ h, (pairDims N M K wf).siIdx (ix1 j) ⟨List.idxOf (1 : Fin 2) (pairDims N M K wf).startIndexMap, h⟩
        = ix2 j 1 := fun h => by
      funext b; refine Fin.ext ?_
      match b with
      | ⟨0, _⟩ => rfl
      | ⟨1, _⟩ => rfl
    show min (idx ((pairDims N M K wf).siIdx (ix1 j) ⟨List.idxOf (1 : Fin 2) (pairDims N M K wf).startIndexMap, _⟩)).toInt.toNat
      (M - 1) = m.val
    rw [hsi, h1, toInt_small _ (by omega)]; omega

theorem col_apply {α : Type} {N M K : Nat} (hM : M ≤ 8192)
    (wf : GatherDims.WF ⟨2, ![N, M]⟩ ⟨2, ![K, 1]⟩ ⟨2, ![N, K]⟩ [0] [1] [] [1] [] 1 ![N, 1])
    (t : (⟨2, ![N, M]⟩ : Shape).Idx → α) (idx : IVec ⟨2, ![K, 1]⟩ 32) (i : Fin N) (j : Fin K) (m : Fin M)
    (h : idx (ix2 j 0) = BitVec.ofNat 32 m.val) :
    Host.gather (colDims N M K wf) t idx (ix2 i j) = t (ix2 i m) := by
  unfold Host.gather
  congr 1
  funext a
  refine Fin.ext ?_
  show (colDims N M K wf).start (ix2 i j) idx a + (colDims N M K wf).batchCoord (ix2 i j) a
    + (colDims N M K wf).offCoord (ix2 i j) a = _
  rw [GatherDims.batchCoord_eq_zero _ _ _ List.not_mem_nil]
  have hm := m.isLt
  match a with
  | ⟨0, _⟩ =>
    show (colDims N M K wf).start (ix2 i j) idx (0 : Fin 2) + 0 + (colDims N M K wf).offCoord (ix2 i j) (0 : Fin 2) = i.val
    have h0 : (colDims N M K wf).start (ix2 i j) idx (0 : Fin 2) = 0 := by
      unfold GatherDims.start; rw [dif_neg (by simp)]
    have h1 : (colDims N M K wf).offCoord (ix2 i j) (0 : Fin 2) = i.val := by
      unfold GatherDims.offCoord
      rw [dif_pos ((GatherDims.mem_sKept _ _).mpr ⟨by simp, by simp⟩)]
      rfl
    rw [h0, h1]; omega
  | ⟨1, _⟩ =>
    show (colDims N M K wf).start (ix2 i j) idx (1 : Fin 2) + 0 + (colDims N M K wf).offCoord (ix2 i j) (1 : Fin 2) = m.val
    rw [GatherDims.offCoord_eq_zero _ _ _ (fun h => ((GatherDims.mem_sKept _ _).mp h).1 (List.mem_singleton.mpr rfl))]
    unfold GatherDims.start
    rw [dif_pos (show (1 : Fin 2) ∈ (colDims N M K wf).startIndexMap from List.mem_singleton.mpr rfl)]
    have hsi : ∀ h, (colDims N M K wf).siIdx (ix2 i j) ⟨List.idxOf (1 : Fin 2) (colDims N M K wf).startIndexMap, h⟩
        = ix2 j 0 := fun h => by
      funext b; refine Fin.ext ?_
      match b with
      | ⟨0, _⟩ => rfl
      | ⟨1, _⟩ => rfl
    show min (idx ((colDims N M K wf).siIdx (ix2 i j) ⟨List.idxOf (1 : Fin 2) (colDims N M K wf).startIndexMap, _⟩)).toInt.toNat
      (M - 1) + 0 + 0 = m.val
    rw [hsi, h, toInt_small _ (by omega)]; omega

variable {F : FTy → Type} [FloatOps F]

theorem pairOf_0 (a b : IVec S8192 32) (j : Fin 8192) : pairOf a b (ix2 j 0) = a (ix1 j) := by
  pointwise [pairOf, colOf]
theorem pairOf_1 (a b : IVec S8192 32) (j : Fin 8192) : pairOf a b (ix2 j 1) = b (ix1 j) := by
  pointwise [pairOf, colOf]
theorem colOf_0 (a : IVec S8192 32) (j : Fin 8192) : colOf a (ix2 j 0) = a (ix1 j) := by
  pointwise [colOf]

theorem takeA_apply (t : FVec F S1024x8192 .f32) (a : IVec S8192 32) (j : Fin 8192) (n : Fin 1024)
    (h : a (ix1 j) = BitVec.ofNat 32 n.val) : takeA t a (ix1 j) = t (ix2 n j) :=
  pair_apply (by norm_num) (by norm_num) _ t _ j n j ((pairOf_0 _ _ j).trans h) ((pairOf_1 _ _ j).trans rfl)

theorem takeG_apply (t : FVec F S1024x1024 .f32) (a b : IVec S8192 32) (j : Fin 8192) (n m : Fin 1024)
    (h : a (ix1 j) = BitVec.ofNat 32 n.val) (h' : b (ix1 j) = BitVec.ofNat 32 m.val) :
    takeG t a b (ix1 j) = t (ix2 n m) :=
  pair_apply (by norm_num) (by norm_num) _ t _ j n m ((pairOf_0 _ _ j).trans h) ((pairOf_1 _ _ j).trans h')

theorem colG_apply (t : FVec F S1024x1024 .f32) (a : IVec S8192 32) (i : Fin 1024) (j : Fin 8192) (n : Fin 1024)
    (h : a (ix1 j) = BitVec.ofNat 32 n.val) :
    Host.gather gather_S1024x1024_S8192x1_S1024x8192_0_1_n_n_1_1_10241 t (colOf a) (ix2 i j) = t (ix2 i n) :=
  col_apply (by norm_num) _ t _ i j n ((colOf_0 _ j).trans h)

theorem colD_apply (t : FVec F S256x1024 .f32) (a : IVec S8192 32) (i : Fin 256) (j : Fin 8192) (n : Fin 1024)
    (h : a (ix1 j) = BitVec.ofNat 32 n.val) :
    Host.gather gather_S256x1024_S8192x1_S256x8192_0_1_n_n_1_1_2561 t (colOf a) (ix2 i j) = t (ix2 i n) :=
  col_apply (by norm_num) _ t _ i j n ((colOf_0 _ j).trans h)

end Cert.ReferenceIdeal.Hand

end
-- ==== Proof.RefCol.lean ====
module

public import proofs.«01_k».proof.Proof.RefSlab
public import proofs.«01_k».proof.Proof.Gather
public import proofs.«01_k».proof.Proof.Code
public import Idealize.ShloMosaic.Lib.Pointwise

@[expose] public section

noncomputable section

/-! # The reference, one signal at a time

At every signal the reference's stages are the pursuit of that signal. -/

namespace Cert.ReferenceIdeal.Hand

open Cert.ReferenceIdeal.Gen Cert.Omp
open Idealize.ShloMosaic Idealize.ShloMosaic.TcCoe Idealize.ShloMosaic.Tactic

/-- A signal. -/
def col (x : FVec Ideal S256x8192 .f32) (j : Fin 8192) (c : Fin 256) : EReal := x (ix2 c j)

section Blocks

theorem selOf_at (a : FVec Ideal S1024x8192 .f32) (j : Fin 8192) (f : Fin 1024 → EReal) (h : ∀ n, a (ix2 n j) = f n) :
    selOf a (ix1 j) = BitVec.ofNat 32 (firstMax f).val := by
  have hf : f = fun n => a (ix2 n j) := funext fun n => (h n).symm
  subst hf
  rw [← fold_first, ← bits_bot]
  pointwise [selOf, maxOf, under, iotaN]
  rfl

theorem absMasked_at (m : IVec S1024x8192 1) (a : FVec Ideal S1024x8192 .f32) (j : Fin 8192) (n : Fin 1024) (p : Prop) [Decidable p]
    (r : EReal) (hm : m (ix2 n j) = flag p) (h : a (ix2 n j) = r) : absMasked m a (ix2 n j) = if p then ⊥ else mag r := by
  subst h
  rw [← select_flag, ← hm, ← bits_bot]
  pointwise [absMasked]
  rfl

theorem hotOf_at (s : IVec S8192 32) (j : Fin 8192) (n m : Fin 1024) (h : s (ix1 j) = BitVec.ofNat 32 m.val) :
    hotOf s (ix2 n j) = flag (n = m) := by
  rw [← flag_eq, ← h]
  pointwise [hotOf, iotaN, under]

theorem under_at (v : FVec Ideal S8192 .f32) (n : Fin 1024) (j : Fin 8192) : under v (ix2 n j) = v (ix1 j) := by
  pointwise [under]

theorem underC_at (v : FVec Ideal S8192 .f32) (n : Fin 256) (j : Fin 8192) : underC v (ix2 n j) = v (ix1 j) := by
  pointwise [underC]

theorem eps_at (j : Fin 8192) : rowC (F := Ideal) 0x322BCC77#32 (ix1 j) = (eps : EReal) := by
  rw [← bits_eps]; pointwise [rowC]

end Blocks

section Stages
variable (d : FVec Ideal S256x1024 .f32) (x : FVec Ideal S256x8192 .f32) (D : Fin 256 → Fin 1024 → ℝ)
  (hd : ∀ c n, d (ix2 c n) = (D c n : EReal)) (j : Fin 8192)

include hd in
theorem alpha_at (n : Fin 1024) : alpha d x (ix2 n j) = corr0 D (col x j) n := by
  simp only [corr0, ← hd, col]
  pointwise [alpha]

include hd in
theorem gram_at (n m : Fin 1024) : gramT d (ix2 n m) = (gram D n m : EReal) := by
  simp only [gram, coe_sum, EReal.coe_mul, ← hd]
  pointwise [gramT]

theorem noMask_at (n : Fin 1024) : noMask (ix2 n j) = flag False := by
  rw [flag_false]; pointwise [noMask]

include hd

theorem b_at (s : IVec S8192 32) (n : Fin 1024) (h : s (ix1 j) = BitVec.ofNat 32 n.val) :
    takeA (alpha d x) s (ix1 j) = corr0 D (col x j) n := by
  rw [takeA_apply _ _ _ n h, alpha_at d x D hd]

omit x in
theorem g_at (s t : IVec S8192 32) (n m : Fin 1024) (h : s (ix1 j) = BitVec.ofNat 32 n.val)
    (h' : t (ix1 j) = BitVec.ofNat 32 m.val) : takeG (gramT d) s t (ix1 j) = (gram D n m : EReal) := by
  rw [takeG_apply _ _ _ _ n m h h', gram_at d D hd]

omit x in
theorem partG_at (s : IVec S8192 32) (c : FVec Ideal S8192 .f32) (n m : Fin 1024) (h : s (ix1 j) = BitVec.ofNat 32 m.val)
    {r : EReal} (hc : c (ix1 j) = r) : partG (gramT d) s c (ix2 n j) = r * (gram D n m : EReal) := by
  show FloatOps.mulf (F := Ideal) _ (under c (ix2 n j)) = _
  rw [under_at, colG_apply _ _ _ _ m h, gram_at d D hd, hc]
  exact mul_comm _ _

omit x in
theorem partD_at (s : IVec S8192 32) (c : FVec Ideal S8192 .f32) (n : Fin 256) (m : Fin 1024) (h : s (ix1 j) = BitVec.ofNat 32 m.val)
    {r : ℝ} (hc : c (ix1 j) = (r : EReal)) : partD d s c (ix2 n j) = ((D n m * r : ℝ) : EReal) := by
  show FloatOps.mulf (F := Ideal) _ (underC c (ix2 n j)) = _
  rw [underC_at, colD_apply _ _ _ _ m h, hd, hc]
  exact (EReal.coe_mul _ _).symm

/-! ### The first atom -/

theorem sel0_at : sel0 d x (ix1 j) = BitVec.ofNat 32 (S0 D (col x j)).val :=
  selOf_at _ j _ fun n => (absMasked_at _ _ j n False _ (noMask_at j n) (alpha_at d x D hd j n)).trans (if_neg id)

theorem mask0_at (n : Fin 1024) : mask0 d x (ix2 n j) = flag (n = S0 D (col x j)) := by
  show IntOp.ori (noMask (ix2 n j)) (hotOf (sel0 d x) (ix2 n j)) = _
  rw [noMask_at, flag_false, hotOf_at _ j n _ (sel0_at d x D hd j), false_or_flag]

theorem b0_at : b0 d x (ix1 j) = Y0 D (col x j) := b_at d x D hd j _ _ (sel0_at d x D hd j)

theorem d0_at : d0 d x (ix1 j) = (E0 D (col x j) : EReal) := by
  show takeG (gramT d) (sel0 d x) (sel0 d x) (ix1 j) + rowC (F := Ideal) 0x322BCC77#32 (ix1 j) = _
  rw [g_at d D hd j _ _ _ _ (sel0_at d x D hd j) (sel0_at d x D hd j), eps_at, ← EReal.coe_add]
  rfl

theorem z0_at : z0 d x (ix1 j) = Z0 D (col x j) := by
  show Ideal.div (b0 d x (ix1 j)) (d0 d x (ix1 j)) = _
  rw [b0_at d x D hd, d0_at d x D hd, div_real _ (E0_pos _ _).ne']
  rfl

theorem corr1_at (n : Fin 1024) : corr1 d x (ix2 n j) = Omp.corr1 D (col x j) n := by
  show alpha d x (ix2 n j) - partG (gramT d) (sel0 d x) (z0 d x) (ix2 n j) = _
  rw [alpha_at d x D hd, partG_at d D hd j _ _ n _ (sel0_at d x D hd j) (z0_at d x D hd j)]
  rfl

/-! ### The second atom -/

theorem sel1_at : sel1 d x (ix1 j) = BitVec.ofNat 32 (S1 D (col x j)).val :=
  selOf_at _ j _ fun n => absMasked_at _ _ j n _ _ (mask0_at d x D hd j n) (corr1_at d x D hd j n)

theorem mask1_at (n : Fin 1024) : mask1 d x (ix2 n j) = flag (n = S0 D (col x j) ∨ n = S1 D (col x j)) := by
  show IntOp.ori (mask0 d x (ix2 n j)) (hotOf (sel1 d x) (ix2 n j)) = _
  rw [mask0_at d x D hd, hotOf_at _ j n _ (sel1_at d x D hd j), flag_or]

theorem b1_at : b1 d x (ix1 j) = corr0 D (col x j) (S1 D (col x j)) := b_at d x D hd j _ _ (sel1_at d x D hd j)

theorem u01_at : u01 d x (ix1 j) = ((L10 D (col x j) * E0 D (col x j) : ℝ) : EReal) := by
  rw [u01, g_at d D hd j _ _ _ _ (sel0_at d x D hd j) (sel1_at d x D hd j), gram_comm, g10_eq]

theorem l10_at : l10 d x (ix1 j) = (L10 D (col x j) : EReal) := by
  show Ideal.div (takeG (gramT d) (sel1 d x) (sel0 d x) (ix1 j)) (d0 d x (ix1 j)) = _
  rw [g_at d D hd j _ _ _ _ (sel1_at d x D hd j) (sel0_at d x D hd j), d0_at d x D hd, div_real_real _ (E0_pos _ _).ne']
  rfl

theorem a11_at : a11 d x (ix1 j) = ((gram D (S1 D (col x j)) (S1 D (col x j)) + eps : ℝ) : EReal) := by
  show takeG (gramT d) (sel1 d x) (sel1 d x) (ix1 j) + rowC (F := Ideal) 0x322BCC77#32 (ix1 j) = _
  rw [g_at d D hd j _ _ _ _ (sel1_at d x D hd j) (sel1_at d x D hd j), eps_at, ← EReal.coe_add]

theorem d1_at : d1 d x (ix1 j) = (E1 D (col x j) : EReal) := by
  show a11 d x (ix1 j) - l10 d x (ix1 j) * u01 d x (ix1 j) = _
  rw [a11_at d x D hd, l10_at d x D hd, u01_at d x D hd, ← EReal.coe_mul, ← EReal.coe_sub, E1]
  congr 1; ring

theorem y1_at : y1 d x (ix1 j) = Y1 D (col x j) := by
  show b1 d x (ix1 j) - l10 d x (ix1 j) * b0 d x (ix1 j) = _
  rw [b1_at d x D hd, l10_at d x D hd, b0_at d x D hd]
  rfl

theorem z1_at : z1 d x (ix1 j) = Z1 D (col x j) := by
  show Ideal.div (y1 d x (ix1 j)) (d1 d x (ix1 j)) = _
  rw [y1_at d x D hd, d1_at d x D hd, div_real _ (E1_pos _ _).ne']
  rfl

theorem c10_at : c10 d x (ix1 j) = C10 D (col x j) := by
  show Ideal.div (b0 d x (ix1 j) - u01 d x (ix1 j) * z1 d x (ix1 j)) (d0 d x (ix1 j)) = _
  rw [b0_at d x D hd, u01_at d x D hd, z1_at d x D hd, d0_at d x D hd, div_real _ (E0_pos _ _).ne', back _ _ _ (E0_pos _ _)]
  rfl

theorem corr2_at (n : Fin 1024) : corr2 d x (ix2 n j) = Omp.corr2 D (col x j) n := by
  show alpha d x (ix2 n j) - (partG (gramT d) (sel0 d x) (c10 d x) (ix2 n j)
    + partG (gramT d) (sel1 d x) (z1 d x) (ix2 n j)) = _
  rw [alpha_at d x D hd, partG_at d D hd j _ _ n _ (sel0_at d x D hd j) (c10_at d x D hd j),
    partG_at d D hd j _ _ n _ (sel1_at d x D hd j) (z1_at d x D hd j)]
  rfl

/-! ### The third atom -/

theorem sel2_at : sel2 d x (ix1 j) = BitVec.ofNat 32 (S2 D (col x j)).val :=
  selOf_at _ j _ fun n => absMasked_at _ _ j n _ _ (mask1_at d x D hd j n) (corr2_at d x D hd j n)

theorem mask2_at (n : Fin 1024) : mask2 d x (ix2 n j) = flag ((n = S0 D (col x j) ∨ n = S1 D (col x j)) ∨ n = S2 D (col x j)) := by
  show IntOp.ori (mask1 d x (ix2 n j)) (hotOf (sel2 d x) (ix2 n j)) = _
  rw [mask1_at d x D hd, hotOf_at _ j n _ (sel2_at d x D hd j), flag_or]

theorem b2_at : b2 d x (ix1 j) = corr0 D (col x j) (S2 D (col x j)) := b_at d x D hd j _ _ (sel2_at d x D hd j)

theorem u02_at : u02 d x (ix1 j) = ((L20 D (col x j) * E0 D (col x j) : ℝ) : EReal) := by
  rw [u02, g_at d D hd j _ _ _ _ (sel0_at d x D hd j) (sel2_at d x D hd j), gram_comm, g20_eq]

theorem u12_at : u12 d x (ix1 j) = ((L21 D (col x j) * E1 D (col x j) : ℝ) : EReal) := by
  show takeG (gramT d) (sel1 d x) (sel2 d x) (ix1 j) - l10 d x (ix1 j) * u02 d x (ix1 j) = _
  rw [g_at d D hd j _ _ _ _ (sel1_at d x D hd j) (sel2_at d x D hd j), gram_comm, g21_eq, l10_at d x D hd, u02_at d x D hd,
    ← EReal.coe_mul, ← EReal.coe_sub]
  congr 1; ring

theorem l20_at : l20 d x (ix1 j) = (L20 D (col x j) : EReal) := by
  show Ideal.div (takeG (gramT d) (sel2 d x) (sel0 d x) (ix1 j)) (d0 d x (ix1 j)) = _
  rw [g_at d D hd j _ _ _ _ (sel2_at d x D hd j) (sel0_at d x D hd j), d0_at d x D hd, div_real_real _ (E0_pos _ _).ne']
  rfl

theorem l21_at : l21 d x (ix1 j) = (L21 D (col x j) : EReal) := by
  show Ideal.div (takeG (gramT d) (sel2 d x) (sel1 d x) (ix1 j) - l20 d x (ix1 j) * u01 d x (ix1 j)) (d1 d x (ix1 j)) = _
  rw [g_at d D hd j _ _ _ _ (sel2_at d x D hd j) (sel1_at d x D hd j), l20_at d x D hd, u01_at d x D hd, d1_at d x D hd,
    ← EReal.coe_mul, ← EReal.coe_sub, div_real_real _ (E1_pos _ _).ne', L21, mul_assoc]

theorem a22_at : a22 d x (ix1 j) = ((gram D (S2 D (col x j)) (S2 D (col x j)) + eps : ℝ) : EReal) := by
  show takeG (gramT d) (sel2 d x) (sel2 d x) (ix1 j) + rowC (F := Ideal) 0x322BCC77#32 (ix1 j) = _
  rw [g_at d D hd j _ _ _ _ (sel2_at d x D hd j) (sel2_at d x D hd j), eps_at, ← EReal.coe_add]

theorem d2_at : d2 d x (ix1 j) = (E2 D (col x j) : EReal) := by
  show a22 d x (ix1 j) - l20 d x (ix1 j) * u02 d x (ix1 j) - l21 d x (ix1 j) * u12 d x (ix1 j) = _
  rw [a22_at d x D hd, l20_at d x D hd, u02_at d x D hd, l21_at d x D hd, u12_at d x D hd]
  simp only [← EReal.coe_mul, ← EReal.coe_sub, E2]
  congr 1; ring

theorem y2_at : y2 d x (ix1 j) = Y2 D (col x j) := by
  show b2 d x (ix1 j) - l20 d x (ix1 j) * b0 d x (ix1 j) - l21 d x (ix1 j) * y1 d x (ix1 j) = _
  rw [b2_at d x D hd, l20_at d x D hd, b0_at d x D hd, l21_at d x D hd, y1_at d x D hd]
  rfl

theorem z2_at : z2 d x (ix1 j) = Z2 D (col x j) := by
  show Ideal.div (y2 d x (ix1 j)) (d2 d x (ix1 j)) = _
  rw [y2_at d x D hd, d2_at d x D hd, div_real _ (E2_pos _ _).ne']
  rfl

theorem c21_at : c21 d x (ix1 j) = C21 D (col x j) := by
  show Ideal.div (y1 d x (ix1 j) - u12 d x (ix1 j) * z2 d x (ix1 j)) (d1 d x (ix1 j)) = _
  rw [y1_at d x D hd, u12_at d x D hd, z2_at d x D hd, d1_at d x D hd, div_real _ (E1_pos _ _).ne', back _ _ _ (E1_pos _ _)]
  rfl

theorem c20_at : c20 d x (ix1 j) = C20 D (col x j) := by
  show Ideal.div (b0 d x (ix1 j) - u01 d x (ix1 j) * c21 d x (ix1 j) - u02 d x (ix1 j) * z2 d x (ix1 j)) (d0 d x (ix1 j)) = _
  rw [b0_at d x D hd, u01_at d x D hd, c21_at d x D hd, u02_at d x D hd, z2_at d x D hd, d0_at d x D hd,
    div_real _ (E0_pos _ _).ne', back _ _ _ (E0_pos _ _), back _ _ _ (E0_pos _ _)]
  rfl

theorem corr3_at (n : Fin 1024) : corr3 d x (ix2 n j) = Omp.corr3 D (col x j) n := by
  show alpha d x (ix2 n j) - (partG (gramT d) (sel0 d x) (c20 d x) (ix2 n j)
    + partG (gramT d) (sel1 d x) (c21 d x) (ix2 n j) + partG (gramT d) (sel2 d x) (z2 d x) (ix2 n j)) = _
  rw [alpha_at d x D hd, partG_at d D hd j _ _ n _ (sel0_at d x D hd j) (c20_at d x D hd j),
    partG_at d D hd j _ _ n _ (sel1_at d x D hd j) (c21_at d x D hd j),
    partG_at d D hd j _ _ n _ (sel2_at d x D hd j) (z2_at d x D hd j)]
  rfl

/-! ### The fourth atom -/

theorem sel3_at : sel3 d x (ix1 j) = BitVec.ofNat 32 (S3 D (col x j)).val :=
  selOf_at _ j _ fun n => absMasked_at _ _ j n _ _ (mask2_at d x D hd j n) (corr3_at d x D hd j n)

theorem b3_at : b3 d x (ix1 j) = corr0 D (col x j) (S3 D (col x j)) := b_at d x D hd j _ _ (sel3_at d x D hd j)

theorem u03_at : u03 d x (ix1 j) = ((L30 D (col x j) * E0 D (col x j) : ℝ) : EReal) := by
  rw [u03, g_at d D hd j _ _ _ _ (sel0_at d x D hd j) (sel3_at d x D hd j), gram_comm, g30_eq]

theorem u13_at : u13 d x (ix1 j) = ((L31 D (col x j) * E1 D (col x j) : ℝ) : EReal) := by
  show takeG (gramT d) (sel1 d x) (sel3 d x) (ix1 j) - l10 d x (ix1 j) * u03 d x (ix1 j) = _
  rw [g_at d D hd j _ _ _ _ (sel1_at d x D hd j) (sel3_at d x D hd j), gram_comm, g31_eq, l10_at d x D hd, u03_at d x D hd,
    ← EReal.coe_mul, ← EReal.coe_sub]
  congr 1; ring

theorem u23_at : u23 d x (ix1 j) = ((L32 D (col x j) * E2 D (col x j) : ℝ) : EReal) := by
  show takeG (gramT d) (sel2 d x) (sel3 d x) (ix1 j) - l20 d x (ix1 j) * u03 d x (ix1 j) - l21 d x (ix1 j) * u13 d x (ix1 j) = _
  rw [g_at d D hd j _ _ _ _ (sel2_at d x D hd j) (sel3_at d x D hd j), gram_comm, g32_eq, l20_at d x D hd, u03_at d x D hd,
    l21_at d x D hd, u13_at d x D hd]
  simp only [← EReal.coe_mul, ← EReal.coe_sub]
  congr 1; ring

theorem l30_at : l30 d x (ix1 j) = (L30 D (col x j) : EReal) := by
  show Ideal.div (takeG (gramT d) (sel3 d x) (sel0 d x) (ix1 j)) (d0 d x (ix1 j)) = _
  rw [g_at d D hd j _ _ _ _ (sel3_at d x D hd j) (sel0_at d x D hd j), d0_at d x D hd, div_real_real _ (E0_pos _ _).ne']
  rfl

theorem l31_at : l31 d x (ix1 j) = (L31 D (col x j) : EReal) := by
  show Ideal.div (takeG (gramT d) (sel3 d x) (sel1 d x) (ix1 j) - l30 d x (ix1 j) * u01 d x (ix1 j)) (d1 d x (ix1 j)) = _
  rw [g_at d D hd j _ _ _ _ (sel3_at d x D hd j) (sel1_at d x D hd j), l30_at d x D hd, u01_at d x D hd, d1_at d x D hd,
    ← EReal.coe_mul, ← EReal.coe_sub, div_real_real _ (E1_pos _ _).ne', L31, mul_assoc]

theorem l32_at : l32 d x (ix1 j) = (L32 D (col x j) : EReal) := by
  show Ideal.div (takeG (gramT d) (sel3 d x) (sel2 d x) (ix1 j) - l30 d x (ix1 j) * u02 d x (ix1 j)
    - l31 d x (ix1 j) * u12 d x (ix1 j)) (d2 d x (ix1 j)) = _
  rw [g_at d D hd j _ _ _ _ (sel3_at d x D hd j) (sel2_at d x D hd j), l30_at d x D hd, u02_at d x D hd, l31_at d x D hd,
    u12_at d x D hd, d2_at d x D hd, ← EReal.coe_mul, ← EReal.coe_mul, ← EReal.coe_sub, ← EReal.coe_sub,
    div_real_real _ (E2_pos _ _).ne', L32, mul_assoc, mul_assoc]

theorem a33_at : a33 d x (ix1 j) = ((gram D (S3 D (col x j)) (S3 D (col x j)) + eps : ℝ) : EReal) := by
  show takeG (gramT d) (sel3 d x) (sel3 d x) (ix1 j) + rowC (F := Ideal) 0x322BCC77#32 (ix1 j) = _
  rw [g_at d D hd j _ _ _ _ (sel3_at d x D hd j) (sel3_at d x D hd j), eps_at, ← EReal.coe_add]

theorem d3_at : d3 d x (ix1 j) = (E3 D (col x j) : EReal) := by
  show a33 d x (ix1 j) - l30 d x (ix1 j) * u03 d x (ix1 j) - l31 d x (ix1 j) * u13 d x (ix1 j)
    - l32 d x (ix1 j) * u23 d x (ix1 j) = _
  rw [a33_at d x D hd, l30_at d x D hd, u03_at d x D hd, l31_at d x D hd, u13_at d x D hd, l32_at d x D hd, u23_at d x D hd]
  simp only [← EReal.coe_mul, ← EReal.coe_sub, E3]
  congr 1; ring

theorem y3_at : y3 d x (ix1 j) = Y3 D (col x j) := by
  show b3 d x (ix1 j) - l30 d x (ix1 j) * b0 d x (ix1 j) - l31 d x (ix1 j) * y1 d x (ix1 j)
    - l32 d x (ix1 j) * y2 d x (ix1 j) = _
  rw [b3_at d x D hd, l30_at d x D hd, b0_at d x D hd, l31_at d x D hd, y1_at d x D hd, l32_at d x D hd, y2_at d x D hd]
  rfl

theorem z3_at : z3 d x (ix1 j) = Z3 D (col x j) := by
  show Ideal.div (y3 d x (ix1 j)) (d3 d x (ix1 j)) = _
  rw [y3_at d x D hd, d3_at d x D hd, div_real _ (E3_pos _ _).ne']
  rfl

theorem c32_at : c32 d x (ix1 j) = C32 D (col x j) := by
  show Ideal.div (y2 d x (ix1 j) - u23 d x (ix1 j) * z3 d x (ix1 j)) (d2 d x (ix1 j)) = _
  rw [y2_at d x D hd, u23_at d x D hd, z3_at d x D hd, d2_at d x D hd, div_real _ (E2_pos _ _).ne', back _ _ _ (E2_pos _ _)]
  rfl

theorem c31_at : c31 d x (ix1 j) = C31 D (col x j) := by
  show Ideal.div (y1 d x (ix1 j) - u12 d x (ix1 j) * c32 d x (ix1 j) - u13 d x (ix1 j) * z3 d x (ix1 j)) (d1 d x (ix1 j)) = _
  rw [y1_at d x D hd, u12_at d x D hd, c32_at d x D hd, u13_at d x D hd, z3_at d x D hd, d1_at d x D hd,
    div_real _ (E1_pos _ _).ne', back _ _ _ (E1_pos _ _), back _ _ _ (E1_pos _ _)]
  rfl

theorem c30_at : c30 d x (ix1 j) = C30 D (col x j) := by
  show Ideal.div (b0 d x (ix1 j) - u01 d x (ix1 j) * c31 d x (ix1 j) - u02 d x (ix1 j) * c32 d x (ix1 j)
    - u03 d x (ix1 j) * z3 d x (ix1 j)) (d0 d x (ix1 j)) = _
  rw [b0_at d x D hd, u01_at d x D hd, c31_at d x D hd, u02_at d x D hd, c32_at d x D hd, u03_at d x D hd, z3_at d x D hd,
    d0_at d x D hd, div_real _ (E0_pos _ _).ne', back _ _ _ (E0_pos _ _), back _ _ _ (E0_pos _ _), back _ _ _ (E0_pos _ _)]
  rfl

end Stages

end Cert.ReferenceIdeal.Hand

end
-- ==== Proof.RefRes.lean ====
module

public import proofs.«01_k».proof.Proof.RefCol

@[expose] public section

noncomputable section

/-! # The reference's results, entry by entry -/

namespace Cert.ReferenceIdeal.Hand

open Cert.ReferenceIdeal.Gen Cert.Omp
open Idealize.ShloMosaic Idealize.ShloMosaic.TcCoe Idealize.ShloMosaic.Tactic

/-! ## The quantiser -/

theorem invLog_at : invLog (F := Ideal) ix0 = (((Real.log 51)⁻¹ : ℝ) : EReal) := by
  rw [← inv_log, ← bits_fifty]
  pointwise [invLog]

theorem unitCoef_at (c : FVec Ideal S4x8192 .f32) (k : Fin 4) (j : Fin 8192) {r : EReal} (h : c (ix2 k j) = r) :
    unitCoef c (ix2 k j) = (unit r : EReal) := by
  subst h
  rw [← unit_eq, ← bits_three, ← bits_neg_three]
  pointwise [unitCoef, fill]
  rfl

theorem binOf_at (c : FVec Ideal S4x8192 .f32) (k : Fin 4) (j : Fin 8192) {r : EReal} (h : c (ix2 k j) = r) :
    binOf c (ix2 k j) = BitVec.ofInt 32 (bin r) := by
  rw [← reference_bin r (unitCoef_at c k j h) invLog_at, ← bits_fifty, ← bits_half_bins]
  generalize hu : unitCoef c = u
  pointwise [binOf, fill]
  rw [hu]
  rfl

theorem coefOf_at (b : IVec S4x8192 32) (k : Fin 4) (j : Fin 8192) {n : ℤ} (h0 : 0 ≤ n) (h1 : n ≤ 15)
    (h : b (ix2 k j) = BitVec.ofInt 32 n) : coefOf (F := Ideal) b (ix2 k j) = (coefQ n : EReal) := by
  have hp : placeOf (F := Ideal) b (ix2 k j) = (place n : EReal) := by
    rw [← place_eq, ← number_bin n h0 h1, ← h, ← bits_width]
    pointwise [placeOf, fill]
  rw [← reference_coef n hp invLog_at, ← bits_fifty, ← bits_three]
  generalize hu : placeOf (F := Ideal) b = u
  pointwise [coefOf, fill]
  rw [hu]
  rfl

theorem stackF_at (a0 a1 a2 a3 : FVec Ideal S8192 .f32) (k : Fin 4) (j : Fin 8192) (r : Fin 4 → EReal) (h0 : a0 (ix1 j) = r 0)
    (h1 : a1 (ix1 j) = r 1) (h2 : a2 (ix1 j) = r 2) (h3 : a3 (ix1 j) = r 3) : stackF a0 a1 a2 a3 (ix2 k j) = r k := by
  have h : r = ![a0 (ix1 j), a1 (ix1 j), a2 (ix1 j), a3 (ix1 j)] := by
    rw [h0, h1, h2, h3]; funext i; fin_cases i <;> rfl
  rw [h]
  fin_cases k <;> pointwise [stackF] <;> rfl

theorem stackI_at (a0 a1 a2 a3 : IVec S8192 32) (k : Fin 4) (j : Fin 8192) (r : Fin 4 → BitVec 32) (h0 : a0 (ix1 j) = r 0)
    (h1 : a1 (ix1 j) = r 1) (h2 : a2 (ix1 j) = r 2) (h3 : a3 (ix1 j) = r 3) : stackI a0 a1 a2 a3 (ix2 k j) = r k := by
  have h : r = ![a0 (ix1 j), a1 (ix1 j), a2 (ix1 j), a3 (ix1 j)] := by
    rw [h0, h1, h2, h3]; funext i; fin_cases i <;> rfl
  rw [h]
  fin_cases k <;> pointwise [stackI] <;> rfl

section Stages
variable (d : FVec Ideal S256x1024 .f32) (x : FVec Ideal S256x8192 .f32) (D : Fin 256 → Fin 1024 → ℝ)
  (hd : ∀ c n, d (ix2 c n) = (D c n : EReal)) (j : Fin 8192)
include hd

theorem bins_at (k : Fin 4) : bins d x (ix2 k j) = BitVec.ofInt 32 (bin (coefs D (col x j) k)) := by
  refine binOf_at _ k j (stackF_at _ _ _ _ k j (coefs D (col x j)) ?_ ?_ ?_ ?_)
  · exact c30_at d x D hd j
  · exact c31_at d x D hd j
  · exact c32_at d x D hd j
  · exact z3_at d x D hd j

theorem quant_at (k : Fin 4) : coefOf (F := Ideal) (bins d x) (ix2 k j) = (coefQ (bin (coefs D (col x j) k)) : EReal) :=
  coefOf_at _ k j (bin_bounds _).1 (bin_bounds _).2 (bins_at d x D hd j k)

theorem recon_at (c : Fin 256) : recon d x (ix2 c j) = (Omp.rec D (col x j) c : EReal) := by
  have q0 : rowOf ![0, 0] slices_S4x8192_S1x8192_0_0 (coefOf (F := Ideal) (bins d x)) (ix1 j) = (coefQ (bin (C30 D (col x j))) : EReal) := by
    refine Eq.trans ?_ (quant_at d x D hd j 0); pointwise [rowOf]
  have q1 : rowOf ![1, 0] slices_S4x8192_S1x8192_1_0 (coefOf (F := Ideal) (bins d x)) (ix1 j) = (coefQ (bin (C31 D (col x j))) : EReal) := by
    refine Eq.trans ?_ (quant_at d x D hd j 1); pointwise [rowOf]
  have q2 : rowOf ![2, 0] slices_S4x8192_S1x8192_2_0 (coefOf (F := Ideal) (bins d x)) (ix1 j) = (coefQ (bin (C32 D (col x j))) : EReal) := by
    refine Eq.trans ?_ (quant_at d x D hd j 2); pointwise [rowOf]
  have q3 : rowOf ![3, 0] slices_S4x8192_S1x8192_3_0 (coefOf (F := Ideal) (bins d x)) (ix1 j) = (coefQ (bin (Z3 D (col x j))) : EReal) := by
    refine Eq.trans ?_ (quant_at d x D hd j 3); pointwise [rowOf]
  show partD d (sel0 d x) _ (ix2 c j) + partD d (sel1 d x) _ (ix2 c j) + partD d (sel2 d x) _ (ix2 c j)
    + partD d (sel3 d x) _ (ix2 c j) = _
  rw [partD_at d D hd j _ _ c _ (sel0_at d x D hd j) q0, partD_at d D hd j _ _ c _ (sel1_at d x D hd j) q1,
    partD_at d D hd j _ _ c _ (sel2_at d x D hd j) q2, partD_at d D hd j _ _ c _ (sel3_at d x D hd j) q3]
  simp only [← EReal.coe_add]
  rfl

theorem sels_at (k : Fin 4) :
    stackI (sel0 d x) (sel1 d x) (sel2 d x) (sel3 d x) (ix2 k j) = BitVec.ofNat 32 (sels D (col x j) k).val := by
  refine stackI_at _ _ _ _ k j (fun k => BitVec.ofNat 32 (sels D (col x j) k).val) ?_ ?_ ?_ ?_
  · exact sel0_at d x D hd j
  · exact sel1_at d x D hd j
  · exact sel2_at d x D hd j
  · exact sel3_at d x D hd j

end Stages

end Cert.ReferenceIdeal.Hand

end
-- ==== Proof.RefOut.lean ====
module

public import proofs.«01_k».proof.Proof.RefRes

@[expose] public section

noncomputable section

namespace Cert.ReferenceIdeal.Hand

open Cert.ReferenceIdeal.Gen Cert.Omp
open Idealize.ShloMosaic Idealize.ShloMosaic.TcCoe Idealize.ShloMosaic.Tactic

/-! ## The results -/

/-- The place of a signal among all. -/
def place3 (b : Fin 8) (h w : Fin 32) : Fin 8192 := ⟨b.val * 1024 + h.val * 32 + w.val, by omega⟩

/-- The signal at a place of the input. -/
def signal (x0 : FVec Ideal S8x256x32x32 .f32) (b : Fin 8) (h w : Fin 32) (c : Fin 256) : EReal := x0 (ix4 b c h w)

theorem col_sig (x0 : FVec Ideal S8x256x32x32 .f32) (b : Fin 8) (h w : Fin 32) :
    col (sig x0) (place3 b h w) = signal x0 b h w := by
  funext c
  show sig x0 (ix2 c (place3 b h w)) = _
  pointwise [sig]
  rw [signal]
  congr 1
  have h1 : (b.val * 1024 + h.val * 32 + w.val) / 1024 = b.val := by omega
  have h2 : (b.val * 1024 + h.val * 32 + w.val) / 32 % 32 = h.val := by omega
  have h3 : (b.val * 1024 + h.val * 32 + w.val) % 32 = w.val := by omega
  simp only [place3, h1, h2, h3]

theorem back_place (r : FVec Ideal S256x8192 .f32) (b : Fin 8) (h w : Fin 32) (c : Fin 256) :
    transpose S8x256x32x32 [0, 3, 1, 2] (shapeCast S8x32x32x256
      (transpose S8192x256 [1, 0] r transposes_S256x8192_S8192x256_1_0) shapeCasts_S8192x256_S8x32x32x256)
      transposes_S8x32x32x256_S8x256x32x32_0_3_1_2 (ix4 b c h w) = r (ix2 c (place3 b h w)) := by
  unfold place3
  pointwise []

theorem subf_entry (a e : FVec Ideal S8x256x32x32 .f32) (i : S8x256x32x32.Idx) : subf a e i = a i - e i := rfl

theorem addf_entry (a e : FVec Ideal S8x256x32x32 .f32) (i : S8x256x32x32.Idx) : addf a e i = a i + e i := rfl

section Results
variable (x0 : FVec Ideal S8x256x32x32 .f32) (x1 : FVec Ideal S256x1024 .f32) (D : Fin 256 → Fin 1024 → ℝ)
  (hd : ∀ c n, dict x1 (ix2 c n) = (D c n : EReal)) (b : Fin 8) (h w : Fin 32)
include hd

theorem reconT_at (c : Fin 256) : reconT (dict x1) (sig x0) (ix4 b c h w) = (Omp.rec D (signal x0 b h w) c : EReal) := by
  rw [← col_sig, ← recon_at (dict x1) (sig x0) D hd]
  exact back_place _ b h w c

theorem miss_at (c : Fin 256) :
    subf (reconT (dict x1) (sig x0)) x0 (ix4 b c h w) = miss D (signal x0 b h w) c := by
  rw [miss, ← reconT_at x0 x1 D hd b h w c, signal]
  exact subf_entry _ _ _

theorem resZ_at (c : Fin 256) : resZ x0 x1 (ix4 b c h w) = x0 (ix4 b c h w) + miss D (signal x0 b h w) c := by
  rw [← miss_at x0 x1 D hd b h w c]
  exact addf_entry _ _ _

theorem resTok_at (k : Fin 4) :
    resTok x0 x1 (ix4 b h w k) = token (sels D (signal x0 b h w) k) (coefs D (signal x0 b h w) k) := by
  rw [token, ← col_sig, ← sels_at (dict x1) (sig x0) D hd, ← bins_at (dict x1) (sig x0) D hd]
  rw [resTok, toks]
  generalize stackI (sel0 (dict x1) (sig x0)) (sel1 (dict x1) (sig x0)) (sel2 (dict x1) (sig x0)) (sel3 (dict x1) (sig x0)) = s
  generalize bins (dict x1) (sig x0) = t
  pointwise []
  rfl

end Results

end Cert.ReferenceIdeal.Hand

end
-- ==== Proof.Loss.lean ====
module

public import proofs.«01_k».proof.Proof.Value
public import proofs.«01_k».proof.Proof.RefOut

@[expose] public section

set_option maxRecDepth 16384

noncomputable section

/-! # The loss: the kernel's running sum against the reference's mean -/

namespace Cert.Omp

open Idealize.ShloMosaic Idealize.ShloMosaic.TcCoe Idealize.ShloMosaic.Tactic

/-- A mean of non-negative numbers and a quarter of it again is the sum times one number. -/
theorem mean_scale (s : EReal) (h : 0 ≤ s) :
    Ideal.div s ((2097152 : ℝ) : EReal) + ((1 / 4 : ℝ) : EReal) * Ideal.div s ((2097152 : ℝ) : EReal)
      = s * ((5 / 8388608 : ℝ) : EReal) := by
  rw [Ideal.div_coe (by norm_num)]
  induction s using EReal.rec with
  | bot => exact absurd h (by simp)
  | top =>
    rw [EReal.top_mul_coe_of_pos (by norm_num), EReal.top_mul_coe_of_pos (by norm_num), EReal.coe_mul_top_of_pos (by norm_num)]
    exact EReal.top_add_top
  | coe r =>
    rw [← EReal.coe_mul, ← EReal.coe_mul, ← EReal.coe_mul, ← EReal.coe_add]
    congr 1
    ring

/-- A sum over the places of a batch, row by row. -/
theorem sum_places (f : Fin 1024 → EReal) : ∑ n, f n = ∑ h : Fin 32, ∑ w : Fin 32, f ⟨h.val * 32 + w.val, by omega⟩ := by
  rw [← Fintype.sum_prod_type', ← (finProdFinEquiv (m := 32) (n := 32)).sum_comp]
  refine Finset.sum_congr rfl fun p _ => ?_
  congr 1
  refine Fin.ext ?_
  show p.2.val + 32 * p.1.val = p.1.val * 32 + p.2.val
  omega

end Cert.Omp

namespace Cert.ReferenceIdeal.Hand

open Cert.ReferenceIdeal.Gen Cert.Omp
open Idealize.ShloMosaic Idealize.ShloMosaic.TcCoe Idealize.ShloMosaic.Tactic

/-- The mean of the squares is a sum over everything. -/
theorem meanSq_at (e : FVec Ideal S8x256x32x32 .f32) :
    meanSq e ix0 = Ideal.div (∑ b : Fin 8, ∑ c : Fin 256, ∑ h : Fin 32, ∑ w : Fin 32, e (ix4 b c h w) * e (ix4 b c h w))
      ((2097152 : ℝ) : EReal) := by
  have hr : Host.reduceAdd (mulf e e) (constant S_ .f32 0x00000000#32) reducesTo_S8x256x32x32_S_d0_1_2_3 h_S_ ix0
      = ∑ b : Fin 8, ∑ c : Fin 256, ∑ h : Fin 32, ∑ w : Fin 32, e (ix4 b c h w) * e (ix4 b c h w) := by
    rw [← sum_idx4 (fun i => e i * e i)]
    have ht := Ideal.hostReduceAdd_total reducesTo_S8x256x32x32_S_d0_1_2_3 (fun b => b.elim0) (fun i => e i * e i)
      (Ideal.ofBits .f32 0x00000000#32) ix0
    rw [Ideal.ofBits_zero, zero_add] at ht
    rw [← ht, ← Ideal.ofBits_zero .f32]
    rfl
  rw [← hr, ← bits_count]
  rfl

theorem resLoss_at (x0 : FVec Ideal S8x256x32x32 .f32) (x1 : FVec Ideal S256x1024 .f32) (D : Fin 256 → Fin 1024 → ℝ)
    (hd : ∀ c n, dict x1 (ix2 c n) = (D c n : EReal)) :
    resLoss x0 x1 ix0 = (∑ b : Fin 8, ∑ c : Fin 256, ∑ h : Fin 32, ∑ w : Fin 32,
      miss D (signal x0 b h w) c * miss D (signal x0 b h w) c) * ((5 / 8388608 : ℝ) : EReal) := by
  simp only [← miss_at x0 x1 D hd]
  rw [← mean_scale, ← meanSq_at, ← bits_quarter]
  · rfl
  · exact Finset.sum_nonneg fun _ _ => Finset.sum_nonneg fun _ _ => Finset.sum_nonneg fun _ _ => Finset.sum_nonneg fun _ _ => square_nonneg _

end Cert.ReferenceIdeal.Hand

namespace Cert.KernelIdeal.Hand

open Cert.KernelIdeal.Gen Cert.Omp
open Idealize.ShloMosaic Idealize.ShloMosaic.TcCoe Idealize.ShloMosaic.Tactic

theorem lossStep_mid (n : ℕ) (h0 : n ≠ 0) (h7 : n < 7) (err : EReal) (prev : Vec Ideal S1x1 .f32) (j : S1x1.Idx) :
    lossStep (F := Ideal) (BitVec.ofNat 32 n) err prev j = prev j + err := by
  have e7 : Scalar.cmpi .eq (BitVec.ofNat 32 n) 7#32 = 0#1 := by
    interval_cases n <;> first | rfl | exact absurd rfl h0
  have e0 : Scalar.cmpi .eq (BitVec.ofNat 32 n) 0#32 = 0#1 := by
    interval_cases n <;> first | rfl | exact absurd rfl h0
  rw [lossStep, e7, e0, shapeCast_self]
  rfl

theorem lossStep_last (err : EReal) (prev : Vec Ideal S1x1 .f32) (j : S1x1.Idx) :
    lossStep (F := Ideal) 7#32 err prev j = (prev j + err) * ((5 / 8388608 : ℝ) : EReal) := by
  rw [← bits_mean, lossStep, shapeCast_self]
  rfl

theorem lossStep_init (err : EReal) (prev : Vec Ideal S1x1 .f32) (j : S1x1.Idx) :
    lossStep (F := Ideal) 0#32 err prev j = err := by
  rw [← zero_add err, ← Ideal.ofBits_zero .f32, lossStep, Ideal.ofBits_zero .f32, zero_add]
  show Ideal.ofBits .f32 0x00000000#32 + err = err
  rw [Ideal.ofBits_zero, zero_add]

variable (m : (ℓ : Loc nD τ sig) → Buf (Elt Ideal) ℓ) (c : Dev nD)

/-- The error of a point, by its number. -/
def errN (n : ℕ) : EReal := if h : n < cfg0.N then errAt m c ⟨n, h⟩ else 0

theorem lossAt_sum (n : ℕ) (h : n < cfg0.N) (h7 : n < 7) (j : S1x1.Idx) :
    lossAt m c n h j = ∑ k ∈ Finset.range (n + 1), errN m c k := by
  induction n with
  | zero =>
    rw [lossAt, lossStep_init, Finset.sum_range_one, errN, dif_pos h]
  | succ n ih =>
    rw [lossAt, lossStep_mid _ (Nat.succ_ne_zero n) h7, ih _ (by omega), Finset.sum_range_succ _ (n + 1), errN.eq_1 m c (n + 1), dif_pos h]

theorem loss_end (h : 7 < cfg0.N) (j : S1x1.Idx) :
    lossAt m c 7 h j = (∑ b : Fin 8, ∑ k : Fin 256, ∑ n : Fin 1024,
      miss (DD m c) (pixel (zIn m c) b n) k * miss (DD m c) (pixel (zIn m c) b n) k) * ((5 / 8388608 : ℝ) : EReal) := by
  rw [lossAt, lossStep_last, lossAt_sum m c 6 _ (by omega)]
  congr 1
  have e : errAt m c ⟨7, h⟩ = errN m c 7 := by rw [errN, dif_pos h]
  rw [e, ← Finset.sum_range_succ, Finset.sum_range (n := 8)]
  refine Finset.sum_congr rfl fun b _ => ?_
  have hb : b.val < cfg0.N := lt_of_lt_of_eq b.isLt N_0.symm
  rw [errN, dif_pos hb, errAt, blockErr_eq _ _ _ _ (isDict m c) (isGram m c)]
  simp only [sigB_blk]
  rfl

end Cert.KernelIdeal.Hand

end
-- ==== Proof.Match.lean ====
module

public import proofs.«01_k».proof.Proof.Loss

@[expose] public section

set_option maxRecDepth 16384

noncomputable section

/-! # The two programs' results are the same -/

namespace Cert.KernelIdeal.Hand

open Cert.KernelIdeal.Gen Cert.Omp
open Idealize.ShloMosaic Idealize.ShloMosaic.TcCoe Idealize.ShloMosaic.Tactic
open Cert.ReferenceIdeal.Hand (dict resZ resTok resLoss signal)

/-- The reference's dictionary is the kernel's. -/
theorem dict_atoms (x1 : Vec Ideal S256x1024 .f32) (k : Fin 256) (n : Fin 1024) :
    dict (F := Ideal) x1 (ix2 k n) = (atoms x1 k n : EReal) := by
  rw [atoms, ← normal_real, normal, ← bits_tiny]
  pointwise [dict]

variable (m : (ℓ : Loc nD τ sig) → Buf (Elt Ideal) ℓ) (c : Dev nD)

/-- The place of a pixel in its batch. -/
def spot (h w : Fin 32) : Fin 1024 := ⟨h.val * 32 + w.val, by omega⟩

theorem signal_pixel (z : Vec Ideal S8x256x32x32 .f32) (b : Fin 8) (h w : Fin 32) : signal z b h w = pixel z b (spot h w) := by
  have h1 : (h.val * 32 + w.val) / 32 = h.val := by omega
  have h2 : (h.val * 32 + w.val) % 32 = w.val := by omega
  funext k
  simp only [signal, pixel, spot, h1, h2]

theorem same_z : shapeCast S8x256x32x32 (arrZ m c) shapeCasts_S8x256x1024_S8x256x32x32 = resZ (F := Ideal) (zIn m c) (dIn m c) := by
  funext i
  idx_vars i
  have hz := Cert.ReferenceIdeal.Hand.resZ_at (zIn m c) (dIn m c) (DD m c) (dict_atoms _) i0 i2 i3 i1
  refine Eq.trans ?_ hz.symm
  have e : shapeCast S8x256x32x32 (arrZ m c) shapeCasts_S8x256x1024_S8x256x32x32 (ix4 i0 i1 i2 i3) = arrZ m c (ix3 i0 i1 (spot i2 i3)) := by
    unfold spot
    generalize arrZ m c = v
    pointwise []
  rw [e]
  simp only [arrZ, ix3_0, ix3_1, ix3_2, ← signal_pixel]
  rfl

theorem same_tok : shapeCast S8x32x32x4 (transpose S8192x4 [1, 0] (arrTok m c) transposes_S4x8192_S8192x4_1_0) shapeCasts_S8192x4_S8x32x32x4
    = resTok (F := Ideal) (zIn m c) (dIn m c) := by
  funext i
  idx_vars i
  have hz := Cert.ReferenceIdeal.Hand.resTok_at (zIn m c) (dIn m c) (DD m c) (dict_atoms _) i0 i1 i2 i3
  refine Eq.trans ?_ hz.symm
  rw [signal_pixel]
  have e : shapeCast S8x32x32x4 (transpose S8192x4 [1, 0] (arrTok m c) transposes_S4x8192_S8192x4_1_0) shapeCasts_S8192x4_S8x32x32x4 (ix4 i0 i1 i2 i3)
      = arrTok m c (ix2 i3 ⟨i0.val * 1024 + (spot i1 i2).val, by omega⟩) := by
    unfold spot
    generalize arrTok m c = v
    pointwise []
    simp only [Nat.add_assoc]
  rw [e]
  have h1 : (i0.val * 1024 + (spot i1 i2).val) / 1024 = i0.val := by omega
  have h2 : (i0.val * 1024 + (spot i1 i2).val) % 1024 = (spot i1 i2).val := by omega
  simp only [arrTok, ix2_0, ix2_1, h1, h2]

theorem same_loss (h : 7 < cfg0.N) : shapeCast S_ (lossAt m c 7 h) shapeCasts_S1x1_S_ = resLoss (F := Ideal) (zIn m c) (dIn m c) := by
  funext i
  obtain rfl : i = ix0 := funext fun a => a.elim0
  have hz := Cert.ReferenceIdeal.Hand.resLoss_at (zIn m c) (dIn m c) (DD m c) (dict_atoms _)
  refine Eq.trans ?_ hz.symm
  refine Eq.trans (loss_end m c h _) ?_
  congr 1
  refine Finset.sum_congr rfl fun b _ => Finset.sum_congr rfl fun k _ => ?_
  rw [sum_places]
  simp only [signal_pixel]
  rfl

/-! ## The runs end alike -/

open Idealize.SL.Sem in
/-- The kernel's run, its results in the reference's terms. -/
theorem run_values (ρ : Dev nD → PrngReg) : θ_run (defs (F := Ideal)) (onTc (τ := τ) (main (F := Ideal))) ⟨m, fun _ => 0, ρ⟩ fun r => ∀ c : Dev nD,
      r.2.mem ((c.tc : Thread nD τ).loc main_v2) = resZ (F := Ideal) (zIn m c) (dIn m c)
      ∧ r.2.mem ((c.tc : Thread nD τ).loc main_v5) = resLoss (F := Ideal) (zIn m c) (dIn m c)
      ∧ r.2.mem ((c.tc : Thread nD τ).loc main_v4) = resTok (F := Ideal) (zIn m c) (dIn m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v2 (Pipeline.mem_restRefs_of main_v2 (by decide) (by decide))).trans
        ((tail_z m c).trans (by rw [arr_z]; exact same_z m c)),
      ((h c).2 main_v5 (Pipeline.mem_restRefs_of main_v5 (by decide) (by decide))).trans
        ((tail_loss m c).trans (by rw [arr_loss]; exact same_loss m c _)),
      ((h c).2 main_v4 (Pipeline.mem_restRefs_of main_v4 (by decide) (by decide))).trans
        ((tail_tok m c).trans (by rw [arr_tok]; exact same_tok m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

end Cert.KernelIdeal.Hand

end
-- ==== Proof.RefRun.lean ====
module

public import proofs.«01_k».proof.Proof.RefSlab
public import proofs.«01_k».proof.Proof.Gen.ReferenceIdeal.Run
public import proofs.«01_k».proof.Proof.Gen.ReferenceIdeal.Read
public import Idealize.ShloMosaic.Lib.Quiescent

@[expose] public section

noncomputable section

/-! # The reference's run, its results by name -/

namespace Cert.ReferenceIdeal.Ends

open Cert.ReferenceIdeal.Gen
open Cert.ReferenceIdeal.Hand (resZ resLoss resTok read_Z read_Loss read_Tok)
open Idealize.ShloMosaic Idealize.ShloMosaic.TcCoe Idealize.SL.Sem

variable (m : (ℓ : Loc nD τ sig) → Buf (Elt Ideal) ℓ) (ρ : Dev nD → PrngReg)

theorem run_values : θ_run (defs (F := Ideal)) (onTc (τ := τ) (main (F := Ideal))) ⟨m, fun _ => 0, ρ⟩ fun r => ∀ c : Dev nD,
      r.2.mem ((c.tc : Thread nD τ).loc main_v398) = resZ (F := Ideal) (m ((c.tc : Thread nD τ).loc main_arg0)) (m ((c.tc : Thread nD τ).loc main_arg1))
      ∧ r.2.mem ((c.tc : Thread nD τ).loc main_v386) = resLoss (F := Ideal) (m ((c.tc : Thread nD τ).loc main_arg0)) (m ((c.tc : Thread nD τ).loc main_arg1))
      ∧ r.2.mem ((c.tc : Thread nD τ).loc main_v396) = resTok (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      (h c).1.trans ((Read.val_main_v398_eq _).trans (read_Z _ _)),
      (h c).2.1.trans ((Read.val_main_v386_eq _).trans (read_Loss _ _)),
      (h c).2.2.1.trans ((Read.val_main_v396_eq _).trans (read_Tok _ _)),
      (h c).2.2.2⟩) (Value.run (F := Ideal) m ρ)

theorem frame : θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2.2, sem_eq_zero_of_no_sems (by decide) r.2⟩) (Value.run (F := Ideal) m ρ)

end Cert.ReferenceIdeal.Ends

end
-- ==== Proof.lean ====
/- The proof of the five claims: the three frames, the idealization, and the two programs' equality over the extended reals. -/
module

public import proofs.«01_k».proof.Defs
public import proofs.«01_k».proof.Proof.KFrame
public import proofs.«01_k».proof.Proof.Match
public import proofs.«01_k».proof.Proof.RefRun

@[expose] public section

noncomputable section

namespace Cert.Proof

open Idealize.ShloMosaic Idealize.SL.Sem Cert.Kernel

theorem frame_kernel : Cert.quiescent_Kernel (hKernel := Cert.Kernel.Gen.facts) := fun m ρ _ => Cert.Kernel.Hand.frame m ρ

theorem frame_ideal : Cert.quiescent_KernelIdeal (hKernelIdeal := Cert.KernelIdeal.Gen.facts) := fun m ρ _ => Cert.KernelIdeal.Hand.frame m ρ

theorem frame_reference : Cert.quiescent_ReferenceIdeal (hReferenceIdeal := Cert.ReferenceIdeal.Gen.facts) :=
  fun m ρ _ => Cert.ReferenceIdeal.Ends.frame m ρ

theorem preserves : Cert.preserves_Kernel_KernelIdeal :=
  ⟨IdealRules.sign_bit.statement Cert.KernelIdeal.S1x256 .f32,
    IdealRules.named_const.statement Cert.KernelIdeal.κ "log51" .f32 0x407BA308#32 ((Real.log 51 : ℝ) : EReal) rfl⟩

/-- From arguments that agree both programs end with the reference's three results. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, _, _, Cert.KernelIdeal.Hand.run_values m ρ, ?_⟩
  refine (θ_run Cert.ReferenceIdeal.defs _ _).mono (fun _ h c => ?_) (Cert.ReferenceIdeal.Ends.run_values m' ρ')
  have h := h c
  refine ⟨h.1.trans ?_, h.2.1.trans ?_, h.2.2.1.trans ?_, h.2.2.2⟩
  · exact congrArg₂ (Cert.ReferenceIdeal.Hand.resZ (F := Ideal)) (hagree c).1 (hagree c).2
  · exact congrArg₂ (Cert.ReferenceIdeal.Hand.resLoss (F := Ideal)) (hagree c).1 (hagree c).2
  · exact congrArg₂ (Cert.ReferenceIdeal.Hand.resTok (F := Ideal)) (hagree c).1 (hagree c).2

theorem claim : Cert.Claim := ⟨Cert.Kernel.Gen.facts, Cert.KernelIdeal.Gen.facts, Cert.ReferenceIdeal.Gen.facts,
  frame_kernel, frame_ideal, frame_reference, preserves, algebraic⟩

end Cert.Proof

end
